-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_ok [hPre_gates_ok : Cert.Pre_gates_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_ok [hPre_gates_ok : Cert.Pre_gates_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_gates_ok [hKernel2Ideal : Cert.Kernel2Ideal.Facts] [hPre_gates_ok : Cert.Pre_gates_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_ok m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_gates_ok [hReference2Ideal : Cert.Reference2Ideal.Facts] [hPre_gates_ok : Cert.Pre_gates_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_gates_ok [hKernel2Ideal : Cert.Kernel2Ideal.Facts] [hReference2Ideal : Cert.Reference2Ideal.Facts] [hPre_gates_ok : Cert.Pre_gates_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_ok m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)) (v4 : (c : Dev Cert.Kernel4Ideal.nD) → Buf (Elt Ideal) ((c.tc : Thread Cert.Kernel4Ideal.nD Cert.Kernel4Ideal.τ).loc Cert.Kernel4Ideal.main_v12_4)) (v5 : (c : Dev Cert.Kernel4Ideal.nD) → Buf (Elt Ideal) ((c.tc : Thread Cert.Kernel4Ideal.nD Cert.Kernel4Ideal.τ).loc Cert.Kernel4Ideal.main_v12_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_v12_4) = v4 c
          ∧ r.2.mem ((c.tc : Thread Cert.Kernel4Ideal.nD Cert.Kernel4Ideal.τ).loc Cert.Kernel4Ideal.main_v12_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v13) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_gates_ok : Cert.Pre_gates_ok.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_gates_ok (hKernel2Ideal := hKernel2Ideal) (hPre_gates_ok := hPre_gates_ok)
    ∧ quiescent_Reference2Ideal (hReference2Ideal := hReference2Ideal)
    ∧ quiescent_Reference2Ideal_pre_gates_ok (hReference2Ideal := hReference2Ideal) (hPre_gates_ok := hPre_gates_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_gates_ok (hKernel2Ideal := hKernel2Ideal) (hReference2Ideal := hReference2Ideal) (hPre_gates_ok := hPre_gates_ok)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S2x16384x1024 : Shape := ⟨3, ![2, 16384, 1024]⟩
abbrev S2x256x1024 : Shape := ⟨3, ![2, 256, 1024]⟩
abbrev S2x256x512 : Shape := ⟨3, ![2, 256, 512]⟩
abbrev S2x16384x512 : Shape := ⟨3, ![2, 16384, 512]⟩
abbrev S2x33024x1024 : Shape := ⟨3, ![2, 33024, 1024]⟩
abbrev S_ : Shape := ⟨0, ![]⟩

class Facts : Prop where
  concatenates_S2x16384x1024_S2x256x1024_S2x16384x1024_S2x33024x1024_d1 : Shape.Concatenates [S2x16384x1024, S2x256x1024, S2x16384x1024] S2x33024x1024 1
  bitsLt_bf16_f32 : FTy.bits .bf16 < FTy.bits .f32
  bcast_S_S2x33024x1024 : S_.BroadcastsInDim S2x33024x1024 (![] : Fin 0 → Fin S2x33024x1024.rank)

variable [Facts]

def fn {F : FTy → Type} [FloatOps F] (main_arg0 : FVec F S2x16384x1024 .bf16) (main_arg1 : FVec F S2x256x1024 .bf16) (main_arg2 : FVec F S2x16384x1024 .bf16) (main_arg3 : FVec F S2x256x512 .bf16) (main_arg4 : FVec F S2x16384x512 .bf16) : IVec S2x33024x1024 1 :=
  let main_v0 : FVec F S2x33024x1024 .bf16 := concatenate S2x33024x1024 1 [⟨S2x16384x1024, main_arg0⟩, ⟨S2x256x1024, main_arg1⟩, ⟨S2x16384x1024, main_arg2⟩] concatenates_S2x16384x1024_S2x256x1024_S2x16384x1024_S2x33024x1024_d1
  let main_v1 : FVec F S2x33024x1024 .f32 := (extf .f32 · bitsLt_bf16_f32) main_v0
  let main_v2 : FVec F S2x33024x1024 .f32 := Host.absf main_v1
  let main_cst : FVec F S_ .f32 := constant S_ .f32 0x7F800000#32
  let main_v3 : FVec F S2x33024x1024 .f32 := broadcastInDim S2x33024x1024 ![] bcast_S_S2x33024x1024 main_cst
  let main_v4 : IVec S2x33024x1024 1 := cmpf .olt main_v2 main_v3
  main_v4
-- ==== Pre_gates_ok.lean ====
abbrev S2x16384x1024 : Shape := ⟨3, ![2, 16384, 1024]⟩
abbrev S2x1x1024 : Shape := ⟨3, ![2, 1, 1024]⟩
abbrev S2x16384x128 : Shape := ⟨3, ![2, 16384, 128]⟩
abbrev S8x1024x3584 : Shape := ⟨3, ![8, 1024, 3584]⟩
abbrev S8x3584x1024 : Shape := ⟨3, ![8, 3584, 1024]⟩
abbrev S1024 : Shape := ⟨1, ![1024]⟩
abbrev S2x16384x8 : Shape := ⟨3, ![2, 16384, 8]⟩
abbrev S_ : Shape := ⟨0, ![]⟩

class Facts : Prop where
  slices_S2x16384x128_S2x16384x8_0_0_0 : S2x16384x128.Slices ![0, 0, 0] S2x16384x8
  bcast_S_S2x16384x8 : S_.BroadcastsInDim S2x16384x8 (![] : Fin 0 → Fin S2x16384x8.rank)

variable [Facts]

def fn {F : FTy → Type} [FloatOps F] (main_arg0 : FVec F S2x16384x1024 .f32) (main_arg1 : FVec F S2x1x1024 .f32) (main_arg2 : FVec F S2x1x1024 .f32) (main_arg3 : FVec F S2x1x1024 .f32) (main_arg4 : FVec F S2x16384x128 .f32) (main_arg5 : FVec F S8x1024x3584 .f32) (main_arg6 : FVec F S8x1024x3584 .f32) (main_arg7 : FVec F S8x3584x1024 .f32) (main_arg8 : FVec F S1024 .f32) (main_arg9 : FVec F S1024 .f32) : IVec S2x16384x8 1 :=
  let main_v0 : FVec F S2x16384x8 .f32 := (extractStridedSlice S2x16384x8 ![0, 0, 0] · slices_S2x16384x128_S2x16384x8_0_0_0) main_arg4
  let main_cst : FVec F S_ .f32 := constant S_ .f32 0x00000000#32
  let main_v1 : FVec F S2x16384x8 .f32 := broadcastInDim S2x16384x8 ![] bcast_S_S2x16384x8 main_cst
  let main_v2 : IVec S2x16384x8 1 := cmpf .oge main_v0 main_v1
  let main_cst_0 : FVec F S_ .f32 := constant S_ .f32 0x7F800000#32
  let main_v3 : FVec F S2x16384x8 .f32 := broadcastInDim S2x16384x8 ![] bcast_S_S2x16384x8 main_cst_0
  let main_v4 : IVec S2x16384x8 1 := cmpf .olt main_v0 main_v3
  let main_v5 : IVec S2x16384x8 1 := andi main_v2 main_v4
  main_v5
-- ==== Kernel.lean ====
abbrev S2x16384x1024 : Shape := ⟨3, ![2, 16384, 1024]⟩
abbrev S2x256x1024 : Shape := ⟨3, ![2, 256, 1024]⟩
abbrev S2x256x512 : Shape := ⟨3, ![2, 256, 512]⟩
abbrev S2x16384x512 : Shape := ⟨3, ![2, 16384, 512]⟩
abbrev S2x16640x1024 : Shape := ⟨3, ![2, 16640, 1024]⟩
abbrev S2x16640x512 : Shape := ⟨3, ![2, 16640, 512]⟩
abbrev S1x1024x256 : Shape := ⟨3, ![1, 1024, 256]⟩
abbrev S1x1280x256 : Shape := ⟨3, ![1, 1280, 256]⟩
abbrev S1x1280x128 : Shape := ⟨3, ![1, 1280, 128]⟩
abbrev S1x1024x128 : Shape := ⟨3, ![1, 1024, 128]⟩
abbrev S2x1024x1 : Shape := ⟨3, ![2, 1024, 1]⟩
abbrev S2x1024x128 : Shape := ⟨3, ![2, 1024, 128]⟩
abbrev S1280x128 : Shape := ⟨2, ![1280, 128]⟩
abbrev S1024x256 : Shape := ⟨2, ![1024, 256]⟩
abbrev S1024x128 : Shape := ⟨2, ![1024, 128]⟩
abbrev S1280x256 : Shape := ⟨2, ![1280, 256]⟩
abbrev S1024x1280 : Shape := ⟨2, ![1024, 1280]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2x16384x1024, .bf16⟩
  | .hbm, ⟨1, _⟩ => ⟨S2x256x1024, .bf16⟩
  | .hbm, ⟨2, _⟩ => ⟨S2x16384x1024, .bf16⟩
  | .hbm, ⟨3, _⟩ => ⟨S2x256x512, .bf16⟩
  | .hbm, ⟨4, _⟩ => ⟨S2x16384x512, .bf16⟩
  | .hbm, ⟨5, _⟩ => ⟨S2x16640x1024, .bf16⟩
  | .hbm, ⟨6, _⟩ => ⟨S2x16640x512, .bf16⟩
  | .hbm, ⟨7, _⟩ => ⟨S2x16384x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1280x256, .bf16⟩
  | .local _ .vmem, ⟨3, _⟩ => ⟨S1x1280x256, .bf16⟩
  | .local _ .vmem, ⟨4, _⟩ => ⟨S1x1280x128, .bf16⟩
  | .local _ .vmem, ⟨5, _⟩ => ⟨S1x1280x128, .bf16⟩
  | .local _ .vmem, ⟨6, _⟩ => ⟨S1x1024x128, .f32⟩
  | .local _ .vmem, ⟨7, _⟩ => ⟨S1x1024x128, .f32⟩
  | .local _ .vmem, ⟨8, _⟩ => ⟨S2x1024x1, .f32⟩
  | .local _ .vmem, ⟨9, _⟩ => ⟨S2x1024x1, .f32⟩
  | .local _ .vmem, ⟨10, _⟩ => ⟨S2x1024x128, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 16, 13], ![false, false, false, false]⟩

def k0_cond2 (i : grid0.Coords) : BitVec 1 :=
  let arg3 : BitVec 32 := BitVec.ofNat 32 (i 3).val
  let c12_i32 : BitVec 32 := 12#32
  let v83 : BitVec 1 := Scalar.cmpi .eq arg3 c12_i32
  let v84 : BitVec 32 := Scalar.extui v83
  let c0_i32_57 : BitVec 32 := 0#32
  let v85 : BitVec 1 := Scalar.cmpi .ne v84 c0_i32_57
  v85

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1280x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1280x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x16384x1024 : Shape := ⟨3, ![2, 16384, 1024]⟩
abbrev S2x256x1024 : Shape := ⟨3, ![2, 256, 1024]⟩
abbrev S2x256x512 : Shape := ⟨3, ![2, 256, 512]⟩
abbrev S2x16384x512 : Shape := ⟨3, ![2, 16384, 512]⟩
abbrev S2x16640x1024 : Shape := ⟨3, ![2, 16640, 1024]⟩
abbrev S2x16640x512 : Shape := ⟨3, ![2, 16640, 512]⟩
abbrev S2x16384x8x128 : Shape := ⟨4, ![2, 16384, 8, 128]⟩
abbrev S2x16640x8x128 : Shape := ⟨4, ![2, 16640, 8, 128]⟩
abbrev S2x16640x8x64 : Shape := ⟨4, ![2, 16640, 8, 64]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x8x64 : Shape := ⟨4, ![2, 16384, 8, 64]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x256x1024, .bf16⟩
  | .hbm, ⟨2, _⟩ => ⟨S2x16384x1024, .bf16⟩
  | .hbm, ⟨3, _⟩ => ⟨S2x256x512, .bf16⟩
  | .hbm, ⟨4, _⟩ => ⟨S2x16384x512, .bf16⟩
  | .hbm, ⟨5, _⟩ => ⟨S2x16640x1024, .bf16⟩
  | .hbm, ⟨6, _⟩ => ⟨S2x16640x1024, .f32⟩
  | .hbm, ⟨7, _⟩ => ⟨S2x16640x512, .bf16⟩
  | .hbm, ⟨8, _⟩ => ⟨S2x16640x512, .f32⟩
  | .hbm, ⟨9, _⟩ => ⟨S2x16384x1024, .f32⟩
  | .hbm, ⟨10, _⟩ => ⟨S2x16384x8x128, .f32⟩
  | .hbm, ⟨11, _⟩ => ⟨S2x16640x8x128, .f32⟩
  | .hbm, ⟨12, _⟩ => ⟨S2x16640x8x64, .f32⟩
  | .hbm, ⟨13, _⟩ => ⟨S2x8x16384x16640, .f32⟩
  | .hbm, ⟨14, _⟩ => ⟨S_, .f32⟩
  | .hbm, ⟨15, _⟩ => ⟨S2x8x16384, .f32⟩
  | .hbm, ⟨16, _⟩ => ⟨S_, .f32⟩
  | .hbm, ⟨17, _⟩ => ⟨S2x8x16384, .f32⟩
  | .hbm, ⟨18, _⟩ => ⟨S2x8x16384, .f32⟩
  | .hbm, ⟨19, _⟩ => ⟨S2x8x16384x1, .f32⟩
  | .hbm, ⟨20, _⟩ => ⟨S2x8x16384x16640, .f32⟩
  | .hbm, ⟨21, _⟩ => ⟨S2x8x16384x16640, .f32⟩
  | .hbm, ⟨22, _⟩ => ⟨S2x8x16384x16640, .f32⟩
  | .hbm, ⟨23, _⟩ => ⟨S_, .f32⟩
  | .hbm, ⟨24, _⟩ => ⟨S2x8x16384, .f32⟩
  | .hbm, ⟨25, _⟩ => ⟨S2x8x16384x1, .f32⟩
  | .hbm, ⟨26, _⟩ => ⟨S2x8x16384x16640, .f32⟩
  | .hbm, ⟨27, _⟩ => ⟨S2x8x16384x16640, .f32⟩
  | .hbm, ⟨28, _⟩ => ⟨S2x8x64x16384, .f32⟩
  | .hbm, ⟨29, _⟩ => ⟨S2x16384x8x64, .f32⟩
  | .hbm, ⟨30, _⟩ => ⟨S2x16384x512, .f32⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1x1024 : Shape := ⟨3, ![2, 1, 1024]⟩
abbrev S2x16384x128 : Shape := ⟨3, ![2, 16384, 128]⟩
abbrev S8x1024x3584 : Shape := ⟨3, ![8, 1024, 3584]⟩
abbrev S8x3584x1024 : Shape := ⟨3, ![8, 3584, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1x1024x512 : Shape := ⟨3, ![1, 1024, 512]⟩
abbrev S1x512x1024 : Shape := ⟨3, ![1, 512, 1024]⟩
abbrev S1024x1024 : Shape := ⟨2, ![1024, 1024]⟩
abbrev S1024x128 : Shape := ⟨2, ![1024, 128]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 16
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S2x16384x128, .f32⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S1024, .f32⟩
  | .hbm, ⟨9, _⟩ => ⟨S1024, .f32⟩
  | .hbm, ⟨10, _⟩ => ⟨S8x1024x3584, .bf16⟩
  | .hbm, ⟨11, _⟩ => ⟨S8x1024x3584, .bf16⟩
  | .hbm, ⟨12, _⟩ => ⟨S8x3584x1024, .bf16⟩
  | .hbm, ⟨13, _⟩ => ⟨S1x1024, .f32⟩
  | .hbm, ⟨14, _⟩ => ⟨S1x1024, .f32⟩
  | .hbm, ⟨15, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .bf16⟩
  | .local _ .vmem, ⟨21, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨4, ![2, 16, 8, 7], ![false, false, false, false]⟩

def k0_cond2 (i : grid0.Coords) : BitVec 1 :=
  let arg2 : BitVec 32 := BitVec.ofNat 32 (i 2).val
  let c7_i32 : BitVec 32 := 7#32
  let v35 : BitVec 1 := Scalar.cmpi .eq arg2 c7_i32
  let arg3 : BitVec 32 := BitVec.ofNat 32 (i 3).val
  let c6_i32 : BitVec 32 := 6#32
  let v36 : BitVec 1 := Scalar.cmpi .eq arg3 c6_i32
  let v37 : BitVec 1 := Scalar.andi v35 v36
  let v38 : BitVec 32 := Scalar.extui v37
  let c0_i32_23 : BitVec 32 := 0#32
  let v39 : BitVec 1 := Scalar.cmpi .ne v38 c0_i32_23
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false, false]
-- ==== Reference2Ideal.lean ====
abbrev S2x16384x1024 : Shape := ⟨3, ![2, 16384, 1024]⟩
abbrev S2x1x1024 : Shape := ⟨3, ![2, 1, 1024]⟩
abbrev S2x16384x128 : Shape := ⟨3, ![2, 16384, 128]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩
abbrev S2x16384x8x3584 : Shape := ⟨4, ![2, 16384, 8, 3584]⟩
abbrev S8x1024x2x16384 : Shape := ⟨4, ![8, 1024, 2, 16384]⟩
abbrev S2x16384x8x1024 : Shape := ⟨4, ![2, 16384, 8, 1024]⟩
abbrev S2x16384x8 : Shape := ⟨3, ![2, 16384, 8]⟩
abbrev S2x16384x8x1 : Shape := ⟨4, ![2, 16384, 8, 1]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S2x16384x128, .f32⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x8x3584, .f32⟩
  | .hbm, ⟨18, _⟩ => ⟨S2x16384x8x3584, .f32⟩
  | .hbm, ⟨19, _⟩ => ⟨S2x16384x8x3584, .f32⟩
  | .hbm, ⟨20, _⟩ => ⟨S_, .f32⟩
  | .hbm, ⟨21, _⟩ => ⟨S2x16384x8x3584, .f32⟩
  | .hbm, ⟨22, _⟩ => ⟨S2x16384x8x3584, .f32⟩
  | .hbm, ⟨23, _⟩ => ⟨S_, .f32⟩
  | .hbm, ⟨24, _⟩ => ⟨S2x16384x8x3584, .f32⟩
  | .hbm, ⟨25, _⟩ => ⟨S2x16384x8x3584, .f32⟩
  | .hbm, ⟨26, _⟩ => ⟨S2x16384x8x3584, .f32⟩
  | .hbm, ⟨27, _⟩ => ⟨S2x16384x8x3584, .f32⟩
  | .hbm, ⟨28, _⟩ => ⟨S2x16384x8x3584, .f32⟩
  | .hbm, ⟨29, _⟩ => ⟨S8x1024x2x16384, .f32⟩
  | .hbm, ⟨30, _⟩ => ⟨S2x16384x8x1024, .f32⟩
  | .hbm, ⟨31, _⟩ => ⟨S2x16384x8, .f32⟩
  | .hbm, ⟨32, _⟩ => ⟨S2x16384x8x1, .f32⟩
  | .hbm, ⟨33, _⟩ => ⟨S2x16384x8x1024, .f32⟩
  | .hbm, ⟨34, _⟩ => ⟨S2x16384x8x1024, .f32⟩
  | .hbm, ⟨35, _⟩ => ⟨S_, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S_, .f32⟩
  | .hbm, ⟨53, _⟩ => ⟨S2x16384, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S2x16384x1024, .f32⟩
  | .hbm, ⟨59, _⟩ => ⟨S2x16384x1024, .f32⟩
  | .hbm, ⟨60, _⟩ => ⟨S_, .f32⟩
  | .hbm, ⟨61, _⟩ => ⟨S2x16384x1, .f32⟩
  | .hbm, ⟨62, _⟩ => ⟨S2x16384x1, .f32⟩
  | .hbm, ⟨63, _⟩ => ⟨S2x16384x1, .f32⟩
  | .hbm, ⟨64, _⟩ => ⟨S2x16384x1024, .f32⟩
  | .hbm, ⟨65, _⟩ => ⟨S2x16384x1024, .f32⟩
  | .hbm, ⟨66, _⟩ => ⟨S1x1x1024, .f32⟩
  | .hbm, ⟨67, _⟩ => ⟨S2x16384x1024, .f32⟩
  | .hbm, ⟨68, _⟩ => ⟨S2x16384x1024, .f32⟩
  | .hbm, ⟨69, _⟩ => ⟨S1x1x1024, .f32⟩
  | .hbm, ⟨70, _⟩ => ⟨S2x16384x1024, .f32⟩
  | .hbm, ⟨71, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference3Ideal.lean ====
abbrev S2x16384x1024 : Shape := ⟨3, ![2, 16384, 1024]⟩
abbrev S2x1x1024 : Shape := ⟨3, ![2, 1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x2816, .f32⟩
  | .hbm, ⟨17, _⟩ => ⟨S2x16384x2816, .f32⟩
  | .hbm, ⟨18, _⟩ => ⟨S2x16384x2816, .f32⟩
  | .hbm, ⟨19, _⟩ => ⟨S_, .f32⟩
  | .hbm, ⟨20, _⟩ => ⟨S2x16384x2816, .f32⟩
  | .hbm, ⟨21, _⟩ => ⟨S2x16384x2816, .f32⟩
  | .hbm, ⟨22, _⟩ => ⟨S_, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S2x16384x2816, .f32⟩
  | .hbm, ⟨27, _⟩ => ⟨S2x16384x2816, .f32⟩
  | .hbm, ⟨28, _⟩ => ⟨S2x16384x1024, .f32⟩
  | .hbm, ⟨29, _⟩ => ⟨S_, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S2x16384x1024, .f32⟩
  | .hbm, ⟨60, _⟩ => ⟨S2x16384x1024, .f32⟩
  | .hbm, ⟨61, _⟩ => ⟨S1x1x1024, .f32⟩
  | .hbm, ⟨62, _⟩ => ⟨S2x16384x1024, .f32⟩
  | .hbm, ⟨63, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x1x1024 : Shape := ⟨3, ![2, 1, 1024]⟩
abbrev S1024x1984 : Shape := ⟨2, ![1024, 1984]⟩
abbrev S1024x128 : Shape := ⟨2, ![1024, 128]⟩
abbrev S1024x256 : Shape := ⟨2, ![1024, 256]⟩
abbrev S1024x32 : Shape := ⟨2, ![1024, 32]⟩
abbrev S1024x768 : Shape := ⟨2, ![1024, 768]⟩
abbrev S_ : Shape := ⟨0, ![]⟩
abbrev S1024x96 : Shape := ⟨2, ![1024, 96]⟩
abbrev S1024x2176 : Shape := ⟨2, ![1024, 2176]⟩
abbrev S2x16384x768 : Shape := ⟨3, ![2, 16384, 768]⟩
abbrev S2x16384x256 : Shape := ⟨3, ![2, 16384, 256]⟩
abbrev S2x16384x512 : Shape := ⟨3, ![2, 16384, 512]⟩
abbrev S2x16384x128 : Shape := ⟨3, ![2, 16384, 128]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x256 : Shape := ⟨3, ![1, 512, 256]⟩
abbrev S1x512x512 : Shape := ⟨3, ![1, 512, 512]⟩
abbrev S1x512x128 : Shape := ⟨3, ![1, 512, 128]⟩
abbrev S512x1024 : Shape := ⟨2, ![512, 1024]⟩
abbrev S1x1024 : Shape := ⟨2, ![1, 1024]⟩
abbrev S512x2176 : Shape := ⟨2, ![512, 2176]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩

abbrev nBuf : Space → Nat
  | .hbm => 23
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x1984, .f32⟩
  | .hbm, ⟨4, _⟩ => ⟨S1024x128, .f32⟩
  | .hbm, ⟨5, _⟩ => ⟨S1024x128, .f32⟩
  | .hbm, ⟨6, _⟩ => ⟨S1024x256, .f32⟩
  | .hbm, ⟨7, _⟩ => ⟨S1024x256, .f32⟩
  | .hbm, ⟨8, _⟩ => ⟨S1024x32, .f32⟩
  | .hbm, ⟨9, _⟩ => ⟨S1024x768, .f32⟩
  | .hbm, ⟨10, _⟩ => ⟨S1024x256, .f32⟩
  | .hbm, ⟨11, _⟩ => ⟨S1024x128, .f32⟩
  | .hbm, ⟨12, _⟩ => ⟨S1024x32, .f32⟩
  | .hbm, ⟨13, _⟩ => ⟨S_, .f32⟩
  | .hbm, ⟨14, _⟩ => ⟨S1024x96, .f32⟩
  | .hbm, ⟨15, _⟩ => ⟨S1024x2176, .f32⟩
  | .hbm, ⟨16, _⟩ => ⟨S1024x2176, .bf16⟩
  | .hbm, ⟨17, _⟩ => ⟨S2x16384x768, .f32⟩
  | .hbm, ⟨18, _⟩ => ⟨S2x16384x256, .f32⟩
  | .hbm, ⟨19, _⟩ => ⟨S2x16384x512, .f32⟩
  | .hbm, ⟨20, _⟩ => ⟨S2x16384x128, .f32⟩
  | .hbm, ⟨21, _⟩ => ⟨S2x16384x256, .f32⟩
  | .hbm, ⟨22, _⟩ => ⟨S2x16384x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2176, .bf16⟩
  | .local _ .vmem, ⟨7, _⟩ => ⟨S1x512x768, .f32⟩
  | .local _ .vmem, ⟨8, _⟩ => ⟨S1x512x768, .f32⟩
  | .local _ .vmem, ⟨9, _⟩ => ⟨S1x512x256, .f32⟩
  | .local _ .vmem, ⟨10, _⟩ => ⟨S1x512x256, .f32⟩
  | .local _ .vmem, ⟨11, _⟩ => ⟨S1x512x512, .f32⟩
  | .local _ .vmem, ⟨12, _⟩ => ⟨S1x512x512, .f32⟩
  | .local _ .vmem, ⟨13, _⟩ => ⟨S1x512x128, .f32⟩
  | .local _ .vmem, ⟨14, _⟩ => ⟨S1x512x128, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x16384x1024 : Shape := ⟨3, ![2, 16384, 1024]⟩
abbrev S2x1x1024 : Shape := ⟨3, ![2, 1, 1024]⟩
abbrev S1024x1984 : Shape := ⟨2, ![1024, 1984]⟩
abbrev S_ : Shape := ⟨0, ![]⟩
abbrev S2x16384x1984 : Shape := ⟨3, ![2, 16384, 1984]⟩
abbrev S2x16384x128 : Shape := ⟨3, ![2, 16384, 128]⟩
abbrev S2x16384x256 : Shape := ⟨3, ![2, 16384, 256]⟩
abbrev S2x16384x32 : Shape := ⟨3, ![2, 16384, 32]⟩
abbrev S2x16384x768 : Shape := ⟨3, ![2, 16384, 768]⟩
abbrev S2x16384x96 : Shape := ⟨3, ![2, 16384, 96]⟩
abbrev S2x16384x512 : Shape := ⟨3, ![2, 16384, 512]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x1984, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1984, .f32⟩
  | .hbm, ⟨12, _⟩ => ⟨S2x16384x128, .f32⟩
  | .hbm, ⟨13, _⟩ => ⟨S2x16384x128, .f32⟩
  | .hbm, ⟨14, _⟩ => ⟨S2x16384x256, .f32⟩
  | .hbm, ⟨15, _⟩ => ⟨S2x16384x256, .f32⟩
  | .hbm, ⟨16, _⟩ => ⟨S2x16384x32, .f32⟩
  | .hbm, ⟨17, _⟩ => ⟨S2x16384x768, .f32⟩
  | .hbm, ⟨18, _⟩ => ⟨S2x16384x256, .f32⟩
  | .hbm, ⟨19, _⟩ => ⟨S2x16384x128, .f32⟩
  | .hbm, ⟨20, _⟩ => ⟨S2x16384x32, .f32⟩
  | .hbm, ⟨21, _⟩ => ⟨S_, .f32⟩
  | .hbm, ⟨22, _⟩ => ⟨S2x16384x96, .f32⟩
  | .hbm, ⟨23, _⟩ => ⟨S2x16384x256, .f32⟩
  | .hbm, ⟨24, _⟩ => ⟨S2x16384x512, .f32⟩
  | .hbm, ⟨25, _⟩ => ⟨S2x16384x128, .f32⟩
  | .hbm, ⟨26, _⟩ => ⟨S2x16384x256, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel5.lean ====
abbrev S2x16384x256 : Shape := ⟨3, ![2, 16384, 256]⟩
abbrev S2x16384x512 : Shape := ⟨3, ![2, 16384, 512]⟩
abbrev S2x16384x1024 : Shape := ⟨3, ![2, 16384, 1024]⟩
abbrev S2x1x1024 : Shape := ⟨3, ![2, 1, 1024]⟩
abbrev S64 : Shape := ⟨1, ![64]⟩
abbrev S256 : Shape := ⟨1, ![256]⟩
abbrev S512 : Shape := ⟨1, ![512]⟩
abbrev S1024x1024 : Shape := ⟨2, ![1024, 1024]⟩
abbrev S1024 : Shape := ⟨1, ![1024]⟩
abbrev S1x64 : Shape := ⟨2, ![1, 64]⟩
abbrev S4x64 : Shape := ⟨2, ![4, 64]⟩
abbrev S1x256 : Shape := ⟨2, ![1, 256]⟩
abbrev S1x512 : Shape := ⟨2, ![1, 512]⟩
abbrev S1x1024 : Shape := ⟨2, ![1, 1024]⟩
abbrev S1x512x256 : Shape := ⟨3, ![1, 512, 256]⟩
abbrev S1x512x512 : Shape := ⟨3, ![1, 512, 512]⟩
abbrev S1x512x1024 : Shape := ⟨3, ![1, 512, 1024]⟩
abbrev S1x1x1024 : Shape := ⟨3, ![1, 1, 1024]⟩
abbrev S512x256 : Shape := ⟨2, ![512, 256]⟩
abbrev S256x256 : Shape := ⟨2, ![256, 256]⟩
abbrev S512x1 : Shape := ⟨2, ![512, 1]⟩
abbrev S512x512 : Shape := ⟨2, ![512, 512]⟩
abbrev S256x1024 : Shape := ⟨2, ![256, 1024]⟩
abbrev S512x1024 : Shape := ⟨2, ![512, 1024]⟩

abbrev nBuf : Space → Nat
  | .hbm => 23
  | .vmem => 22
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x512, .f32⟩
  | .hbm, ⟨3, _⟩ => ⟨S2x16384x256, .f32⟩
  | .hbm, ⟨4, _⟩ => ⟨S2x16384x512, .f32⟩
  | .hbm, ⟨5, _⟩ => ⟨S2x16384x1024, .f32⟩
  | .hbm, ⟨6, _⟩ => ⟨S2x1x1024, .f32⟩
  | .hbm, ⟨7, _⟩ => ⟨S64, .f32⟩
  | .hbm, ⟨8, _⟩ => ⟨S256, .f32⟩
  | .hbm, ⟨9, _⟩ => ⟨S512, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1x256, .f32⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S2x16384x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x512, .f32⟩
  | .local _ .vmem, ⟨9, _⟩ => ⟨S1x512x512, .f32⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256, .f32⟩
  | .local _ .vmem, ⟨15, _⟩ => ⟨S1x256, .f32⟩
  | .local _ .vmem, ⟨16, _⟩ => ⟨S1x512, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S2x16384x256 : Shape := ⟨3, ![2, 16384, 256]⟩
abbrev S2x16384x512 : Shape := ⟨3, ![2, 16384, 512]⟩
abbrev S2x16384x1024 : Shape := ⟨3, ![2, 16384, 1024]⟩
abbrev S2x1x1024 : Shape := ⟨3, ![2, 1, 1024]⟩
abbrev S64 : Shape := ⟨1, ![64]⟩
abbrev S256 : Shape := ⟨1, ![256]⟩
abbrev S512 : Shape := ⟨1, ![512]⟩
abbrev S1024x1024 : Shape := ⟨2, ![1024, 1024]⟩
abbrev S1024 : Shape := ⟨1, ![1024]⟩
abbrev S2x16384x4x64 : Shape := ⟨4, ![2, 16384, 4, 64]⟩
abbrev S_ : Shape := ⟨0, ![]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x16384 : Shape := ⟨2, ![2, 16384]⟩
abbrev S2x16384x1 : Shape := ⟨3, ![2, 16384, 1]⟩
abbrev S1x1x256 : Shape := ⟨3, ![1, 1, 256]⟩
abbrev S1x1x512 : Shape := ⟨3, ![1, 1, 512]⟩
abbrev S1x1x1024 : Shape := ⟨3, ![1, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x512, .f32⟩
  | .hbm, ⟨3, _⟩ => ⟨S2x16384x256, .f32⟩
  | .hbm, ⟨4, _⟩ => ⟨S2x16384x512, .f32⟩
  | .hbm, ⟨5, _⟩ => ⟨S2x16384x1024, .f32⟩
  | .hbm, ⟨6, _⟩ => ⟨S2x1x1024, .f32⟩
  | .hbm, ⟨7, _⟩ => ⟨S64, .f32⟩
  | .hbm, ⟨8, _⟩ => ⟨S256, .f32⟩
  | .hbm, ⟨9, _⟩ => ⟨S512, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S2x16384x256, .f32⟩
  | .hbm, ⟨14, _⟩ => ⟨S2x16384x4x64, .f32⟩
  | .hbm, ⟨15, _⟩ => ⟨S2x16384x4x64, .f32⟩
  | .hbm, ⟨16, _⟩ => ⟨S_, .f32⟩
  | .hbm, ⟨17, _⟩ => ⟨S2x16384x4, .f32⟩
  | .hbm, ⟨18, _⟩ => ⟨S2x16384x4x1, .f32⟩
  | .hbm, ⟨19, _⟩ => ⟨S_, .f32⟩
  | .hbm, ⟨20, _⟩ => ⟨S2x16384x4x1, .f32⟩
  | .hbm, ⟨21, _⟩ => ⟨S2x16384x4x1, .f32⟩
  | .hbm, ⟨22, _⟩ => ⟨S_, .f32⟩
  | .hbm, ⟨23, _⟩ => ⟨S2x16384x4x1, .f32⟩
  | .hbm, ⟨24, _⟩ => ⟨S2x16384x4x1, .f32⟩
  | .hbm, ⟨25, _⟩ => ⟨S2x16384x4x1, .f32⟩
  | .hbm, ⟨26, _⟩ => ⟨S2x16384x4x64, .f32⟩
  | .hbm, ⟨27, _⟩ => ⟨S2x16384x4x64, .f32⟩
  | .hbm, ⟨28, _⟩ => ⟨S1x1x1x64, .f32⟩
  | .hbm, ⟨29, _⟩ => ⟨S2x16384x4x64, .f32⟩
  | .hbm, ⟨30, _⟩ => ⟨S2x16384x4x64, .f32⟩
  | .hbm, ⟨31, _⟩ => ⟨S2x16384x256, .f32⟩
  | .hbm, ⟨32, _⟩ => ⟨S2x16384x4x64, .f32⟩
  | .hbm, ⟨33, _⟩ => ⟨S2x16384x4x64, .f32⟩
  | .hbm, ⟨34, _⟩ => ⟨S2x16384x4x64, .f32⟩
  | .hbm, ⟨35, _⟩ => ⟨S_, .f32⟩
  | .hbm, ⟨36, _⟩ => ⟨S2x16384x4x64, .f32⟩
  | .hbm, ⟨37, _⟩ => ⟨S2x16384x4x64, .f32⟩
  | .hbm, ⟨38, _⟩ => ⟨S_, .f32⟩
  | .hbm, ⟨39, _⟩ => ⟨S2x16384x4x64, .f32⟩
  | .hbm, ⟨40, _⟩ => ⟨S2x16384x4x64, .f32⟩
  | .hbm, ⟨41, _⟩ => ⟨S2x16384x4x64, .f32⟩
  | .hbm, ⟨42, _⟩ => ⟨S2x16384x4x64, .f32⟩
  | .hbm, ⟨43, _⟩ => ⟨S2x16384x256, .f32⟩
  | .hbm, ⟨44, _⟩ => ⟨S2x16384x256, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x256, .f32⟩
  | .hbm, ⟨56, _⟩ => ⟨S2x16384x256, .f32⟩
  | .hbm, ⟨57, _⟩ => ⟨S1x1x256, .f32⟩
  | .hbm, ⟨58, _⟩ => ⟨S2x16384x256, .f32⟩
  | .hbm, ⟨59, _⟩ => ⟨S2x16384x256, .f32⟩
  | .hbm, ⟨60, _⟩ => ⟨S2x16384x512, .f32⟩
  | .hbm, ⟨61, _⟩ => ⟨S_, .f32⟩
  | .hbm, ⟨62, _⟩ => ⟨S2x16384, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x1, .f32⟩
  | .hbm, ⟨71, _⟩ => ⟨S2x16384x512, .f32⟩
  | .hbm, ⟨72, _⟩ => ⟨S2x16384x512, .f32⟩
  | .hbm, ⟨73, _⟩ => ⟨S1x1x512, .f32⟩
  | .hbm, ⟨74, _⟩ => ⟨S2x16384x512, .f32⟩
  | .hbm, ⟨75, _⟩ => ⟨S2x16384x512, .f32⟩
  | .hbm, ⟨76, _⟩ => ⟨S2x16384x1024, .f32⟩
  | .hbm, ⟨77, _⟩ => ⟨S_, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S_, .f32⟩
  | .hbm, ⟨85, _⟩ => ⟨S2x16384, .f32⟩
  | .hbm, ⟨86, _⟩ => ⟨S2x16384x1, .f32⟩
  | .hbm, ⟨87, _⟩ => ⟨S_, .f32⟩
  | .hbm, ⟨88, _⟩ => ⟨S2x16384x1, .f32⟩
  | .hbm, ⟨89, _⟩ => ⟨S2x16384x1, .f32⟩
  | .hbm, ⟨90, _⟩ => ⟨S2x16384x1024, .f32⟩
  | .hbm, ⟨91, _⟩ => ⟨S2x16384x1024, .f32⟩
  | .hbm, ⟨92, _⟩ => ⟨S2x16384x1024, .f32⟩
  | .hbm, ⟨93, _⟩ => ⟨S_, .f32⟩
  | .hbm, ⟨94, _⟩ => ⟨S2x16384, .f32⟩
  | .hbm, ⟨95, _⟩ => ⟨S2x16384x1, .f32⟩
  | .hbm, ⟨96, _⟩ => ⟨S_, .f32⟩
  | .hbm, ⟨97, _⟩ => ⟨S2x16384x1, .f32⟩
  | .hbm, ⟨98, _⟩ => ⟨S2x16384x1, .f32⟩
  | .hbm, ⟨99, _⟩ => ⟨S2x16384x1024, .f32⟩
  | .hbm, ⟨100, _⟩ => ⟨S2x16384x1024, .f32⟩
  | .hbm, ⟨101, _⟩ => ⟨S_, .f32⟩
  | .hbm, ⟨102, _⟩ => ⟨S2x16384x1, .f32⟩
  | .hbm, ⟨103, _⟩ => ⟨S2x16384x1, .f32⟩
  | .hbm, ⟨104, _⟩ => ⟨S2x16384x1, .f32⟩
  | .hbm, ⟨105, _⟩ => ⟨S2x16384x1024, .f32⟩
  | .hbm, ⟨106, _⟩ => ⟨S2x16384x1024, .f32⟩
  | .hbm, ⟨107, _⟩ => ⟨S1x1x1024, .f32⟩
  | .hbm, ⟨108, _⟩ => ⟨S2x16384x1024, .f32⟩
  | .hbm, ⟨109, _⟩ => ⟨S2x16384x1024, .f32⟩
  | .hbm, ⟨110, _⟩ => ⟨S1x1x1024, .f32⟩
  | .hbm, ⟨111, _⟩ => ⟨S2x16384x1024, .f32⟩
  | .hbm, ⟨112, _⟩ => ⟨S2x16384x1024, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Proof.OnlineSoftmax.lean ====
/-
  The online softmax over the extended reals: a row of finite scores is taken in blocks, with a running maximum, a running
  sum of exponentials and a running weighted sum of the values. After any number of scores the three are those of the
  scores seen so far, and at the end the quotient of the last two is the softmax-weighted sum.
-/
module

public import Idealize.ShloMosaic.PureOps.Ideal

@[expose] public section

noncomputable section

open Finset

namespace Cert.Online

open Idealize.ShloMosaic

/-- The largest of the first `n` scores (`⊥` of none). -/
def mx (s : ℕ → EReal) (n : ℕ) : EReal := (range n).sup s

/-- The sum of the exponentials of the first `n` scores, each less their maximum. -/
def den (s : ℕ → EReal) (n : ℕ) : EReal := ∑ k ∈ range n, Ideal.exp (s k - mx s n)

/-- The values of the first `n` keys, weighted by those exponentials. -/
def num (s v : ℕ → EReal) (n : ℕ) : EReal := ∑ k ∈ range n, Ideal.exp (s k - mx s n) * v k

/-- Every score is a real number. -/
def Fin' (s : ℕ → EReal) : Prop := ∀ k, ∃ r : ℝ, s k = r

/-- A positive real factor goes through a sum of extended reals. -/
theorem mul_sum {ι : Type} (c : ℝ) (hc : 0 ≤ c) (S : Finset ι) (f : ι → EReal) : (c : EReal) * ∑ k ∈ S, f k = ∑ k ∈ S, (c : EReal) * f k := by
  classical
  induction S using Finset.induction_on with
  | empty => simp
  | insert a S ha ih =>
    rw [sum_insert ha, sum_insert ha, ← ih]
    exact EReal.left_distrib_of_nonneg_of_ne_top (EReal.coe_nonneg.mpr hc) (EReal.coe_ne_top c) _ _

/-- The maximum of at least one finite score is finite. -/
theorem mx_real {s : ℕ → EReal} (hs : Fin' s) {n : ℕ} (hn : 0 < n) : ∃ r : ℝ, mx s n = r := by
  obtain ⟨k, -, hk⟩ := Finset.exists_mem_eq_sup (range n) ⟨0, mem_range.mpr hn⟩ s
  obtain ⟨r, hr⟩ := hs k
  exact ⟨r, hk.trans hr⟩

/-- The maximum of the first `n` scores and a block of `W` more. -/
theorem mx_add (s : ℕ → EReal) (n W : ℕ) : max (mx s n) ((univ : Finset (Fin W)).fold max ⊥ fun i => s (n + i.val)) = mx s (n + W) := by
  show max (mx s n) ((univ : Finset (Fin W)).sup fun i => s (n + i.val)) = (range (n + W)).sup s
  apply le_antisymm
  · refine max_le (Finset.sup_mono (range_mono (Nat.le_add_right n W))) (Finset.sup_le fun i _ => ?_)
    exact Finset.le_sup (f := s) (mem_range.mpr (Nat.add_lt_add_left i.isLt n))
  · refine Finset.sup_le fun k hk => ?_
    by_cases h : k < n
    · exact le_max_of_le_left (Finset.le_sup (f := s) (mem_range.mpr h))
    · have hk' := mem_range.mp hk
      refine le_max_of_le_right ?_
      have := Finset.le_sup (s := (univ : Finset (Fin W))) (f := fun i => s (n + i.val)) (mem_univ ⟨k - n, by omega⟩)
      simpa only [Nat.add_sub_cancel' (Nat.le_of_not_lt h)] using this

/-- Moving an exponential from the maximum `a` to the maximum `b`. -/
theorem exp_shift (x a b : ℝ) : Ideal.exp ((a : EReal) - b) * Ideal.exp ((x : EReal) - a) = Ideal.exp ((x : EReal) - b) := by
  rw [← EReal.coe_sub, ← EReal.coe_sub, ← EReal.coe_sub, Ideal.exp_coe, Ideal.exp_coe, Ideal.exp_coe, ← EReal.coe_mul, ← Real.exp_add]
  congr 2
  ring

/-- A block of `W` more keys: the weighted sum so far, rescaled to the new maximum, and the block's own weighted values. -/
theorem num_add {s : ℕ → EReal} (hs : Fin' s) (v : ℕ → EReal) (n : ℕ) {W : ℕ} (hW : 0 < W) :
    Ideal.exp (mx s n - mx s (n + W)) * num s v n + ∑ i : Fin W, Ideal.exp (s (n + i.val) - mx s (n + W)) * v (n + i.val) = num s v (n + W) := by
  obtain ⟨b, hb⟩ := mx_real hs (n := n + W) (by omega)
  rw [Fin.sum_univ_eq_sum_range (fun i => Ideal.exp (s (n + i) - mx s (n + W)) * v (n + i)) W]
  rw [show num s v (n + W) = ∑ k ∈ range (n + W), Ideal.exp (s k - mx s (n + W)) * v k from rfl, sum_range_add]
  refine congrArg (· + _) ?_
  rcases Nat.eq_zero_or_pos n with rfl | hn
  · simp [num]
  · obtain ⟨a, ha⟩ := mx_real hs hn
    rw [num, hb, ha]
    have he : Ideal.exp ((a : EReal) - b) = ((Real.exp (a - b) : ℝ) : EReal) := by rw [← EReal.coe_sub, Ideal.exp_coe]
    rw [he, mul_sum _ (Real.exp_pos _).le]
    refine sum_congr rfl fun k _ => ?_
    obtain ⟨x, hx⟩ := hs k
    rw [← mul_assoc, ← he, hx, exp_shift]

/-- A block of `W` more keys: the sum of exponentials so far, rescaled to the new maximum, and the block's own exponentials. -/
theorem den_add {s : ℕ → EReal} (hs : Fin' s) (n : ℕ) {W : ℕ} (hW : 0 < W) :
    Ideal.exp (mx s n - mx s (n + W)) * den s n + ∑ i : Fin W, Ideal.exp (s (n + i.val) - mx s (n + W)) = den s (n + W) := by
  have h := num_add hs (fun _ => 1) n hW
  simpa only [num, den, mul_one] using h

/-- The sum of the exponentials of at least one finite score is a positive real number. -/
theorem den_real {s : ℕ → EReal} (hs : Fin' s) {n : ℕ} (hn : 0 < n) : ∃ r : ℝ, 0 < r ∧ den s n = r := by
  obtain ⟨b, hb⟩ := mx_real hs hn
  choose x hx using hs
  refine ⟨∑ k ∈ range n, Real.exp (x k - b), sum_pos (fun k _ => Real.exp_pos _) ⟨0, mem_range.mpr hn⟩, ?_⟩
  have hc : ∀ S : Finset ℕ, ((∑ k ∈ S, Real.exp (x k - b) : ℝ) : EReal) = ∑ k ∈ S, ((Real.exp (x k - b) : ℝ) : EReal) := by
    intro S
    induction S using Finset.induction_on with
    | empty => simp
    | insert a S ha ih => rw [sum_insert ha, sum_insert ha, EReal.coe_add, ih]
  rw [den, hc]
  refine sum_congr rfl fun k _ => ?_
  rw [hb, hx, ← EReal.coe_sub, Ideal.exp_coe]

/-- The division of the weighted sum by the sum of the exponentials, made once at the end, is the division of every weight. -/
theorem num_div_den {s : ℕ → EReal} (hs : Fin' s) (v : ℕ → EReal) {n : ℕ} (hn : 0 < n) :
    Ideal.div (num s v n) (den s n) = ∑ k ∈ range n, v k * Ideal.div (Ideal.exp (s k - mx s n)) (den s n) := by
  obtain ⟨r, hr, hd⟩ := den_real hs hn
  have hdiv : ∀ y : EReal, Ideal.div y (den s n) = ((r⁻¹ : ℝ) : EReal) * y := by
    intro y
    have h0 : (r : EReal) ≠ 0 := by exact_mod_cast hr.ne'
    rw [hd]
    unfold Ideal.div
    rw [if_neg h0, mul_comm, EReal.coe_inv]
  simp only [hdiv]
  rw [num, mul_sum _ (inv_pos.mpr hr).le]
  exact sum_congr rfl fun k _ => by rw [← mul_assoc, mul_comm]

end Cert.Online
-- ==== Proof.FlashReference.lean ====
/-
  The attention reference read at an index: the scores, their row maximum, the normalised exponentials and the sum over the keys.
-/
module

public import proofs.«01_k».proof.Proof.Gen.ReferenceIdeal.Run
public import proofs.«01_k».proof.Proof.OnlineSoftmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attention

open Cert.ReferenceIdeal Cert.ReferenceIdeal.Gen Cert.Online
open Cert.ReferenceIdeal.Facts

variable (q : Vec Ideal S2x16384x1024 .bf16) (k : Vec Ideal S2x16640x1024 .bf16) (v : Vec Ideal S2x16640x512 .bf16)

/-- The scores of every query against every key, per head. -/
def scores : FVec Ideal S2x8x16384x16640 .f32 :=
  Host.dotGeneral dot_S2x16384x8x128_S2x16640x8x128_S2x8x16384x16640_3_3_1_1_02_02 none
    (shapeCast _ (extf .f32 q bitsLt_bf16_f32) shapeCasts_S2x16384x1024_S2x16384x8x128)
    (shapeCast _ (extf .f32 k bitsLt_bf16_f32) shapeCasts_S2x16640x1024_S2x16640x8x128)

/-- The maximum of each row of scores. -/
def rowMax (s : FVec Ideal S2x8x16384x16640 .f32) : FVec Ideal S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16640_S2x8x16384_d3 h_S_)

/-- The exponentials of the scores less a value per row. -/
def exps (s : FVec Ideal S2x8x16384x16640 .f32) (x : FVec Ideal S2x8x16384 .f32) : FVec Ideal S2x8x16384x16640 .f32 :=
  Host.exp (subf s (broadcastInDim S2x8x16384x16640 ![0, 1, 2, 3] bcast_S2x8x16384x1_S2x8x16384x16640_0_1_2_3
    (broadcastInDim S2x8x16384x1 ![0, 1, 2] bcast_S2x8x16384_S2x8x16384x1_0_1_2 x)))

/-- The exponentials over their row sums. -/
def normed (e : FVec Ideal S2x8x16384x16640 .f32) : FVec Ideal S2x8x16384x16640 .f32 :=
  Host.divf e (broadcastInDim S2x8x16384x16640 ![0, 1, 2, 3] bcast_S2x8x16384x1_S2x8x16384x16640_0_1_2_3
    (broadcastInDim S2x8x16384x1 ![0, 1, 2] bcast_S2x8x16384_S2x8x16384x1_0_1_2
      (Host.reduceAdd e (constant S_ .f32 0x00000000#32) reducesTo_S2x8x16384x16640_S2x8x16384_d3 h_S_)))

/-- The weighted sums of the values, heads side by side in the lanes. -/
def mixed (p : FVec Ideal S2x8x16384x16640 .f32) : FVec Ideal S2x16384x512 .f32 :=
  shapeCast _ (transpose S2x16384x8x64 [0, 3, 1, 2] (Host.dotGeneral dot_S2x16640x8x64_S2x8x16384x16640_S2x8x64x16384_1_3_3_2_02_01 none
    (shapeCast _ (extf .f32 v bitsLt_bf16_f32) shapeCasts_S2x16640x512_S2x16640x8x64) p) transposes_S2x8x64x16384_S2x16384x8x64_0_3_1_2) shapeCasts_S2x16384x8x64_S2x16384x512

theorem scores_at (b : Fin 2) (h : Fin 8) (i : Fin 16384) (j : Fin 16640) :
    scores q k (ix4 b h i j) = ∑ d : Fin 128, q (ix3 b i ⟨h.val * 128 + d.val, by omega⟩) * k (ix3 b j ⟨h.val * 128 + d.val, by omega⟩) := by
  pointwise [scores]

/-- The row maximum of an array of scores, from any starting value. -/
theorem reduce_at (s : FVec Ideal S2x8x16384x16640 .f32) (z : FVec Ideal S_ .f32) (b : Fin 2) (h : Fin 8) (i : Fin 16384) :
    Host.reduce FloatOps.maximumf s z reducesTo_S2x8x16384x16640_S2x8x16384_d3 h_S_ (ix3 b h i)
      = Finset.univ.fold max (z (Shape.Idx.first h_S_)) fun j : Fin 16640 => s (ix4 b h i j) := by
  simp only [pointwise]

theorem ofBits_negInf : (Ideal.ofBits .f32 0xFF800000#32 : EReal) = ⊥ := by simp [Ideal.ofBits, Ideal.ieee]

/-- The maximum with −∞ changes nothing. -/
theorem max_at (Y : FVec Ideal S2x8x16384 .f32) (b : Fin 2) (h : Fin 8) (i : Fin 16384) :
    maximumf (broadcastInDim S2x8x16384 ![] bcast_S_S2x8x16384 (constant (F := Ideal) S_ .f32 0xFF800000#32)) Y (ix3 b h i) = Y (ix3 b h i) := by
  pointwise
  rw [ofBits_negInf, bot_sup_eq]

theorem negInf_at (x : S_.Idx) : (constant (F := Ideal) S_ .f32 0xFF800000#32) x = ⊥ := by
  pointwise
  exact ofBits_negInf

theorem rowMax_at (s : FVec Ideal S2x8x16384x16640 .f32) (b : Fin 2) (h : Fin 8) (i : Fin 16384) :
    rowMax s (ix3 b h i) = Finset.univ.fold max ⊥ fun j : Fin 16640 => s (ix4 b h i j) := by
  rw [rowMax, max_at, reduce_at, negInf_at]

theorem exps_at (s : FVec Ideal S2x8x16384x16640 .f32) (x : FVec Ideal S2x8x16384 .f32) (b : Fin 2) (h : Fin 8) (i : Fin 16384) (j : Fin 16640) :
    exps s x (ix4 b h i j) = Ideal.exp (s (ix4 b h i j) - x (ix3 b h i)) := by
  pointwise [exps]

theorem normed_at (e : FVec Ideal S2x8x16384x16640 .f32) (b : Fin 2) (h : Fin 8) (i : Fin 16384) (j : Fin 16640) :
    normed e (ix4 b h i j) = Ideal.div (e (ix4 b h i j)) (∑ j' : Fin 16640, e (ix4 b h i j')) := by
  pointwise [normed]

theorem mixed_at (p : FVec Ideal S2x8x16384x16640 .f32) (b : Fin 2) (i : Fin 16384) (l : Fin 512) :
    mixed v p (ix3 b i l) = ∑ j : Fin 16640, v (ix3 b j l) * p (ix4 b ⟨l.val / 64, by omega⟩ i j) := by
  pointwise [mixed]

end Cert.ReferenceIdeal.Attention
-- ==== Proof.FlashPayload.lean ====
/-
  What the attention body computes from one block of keys and values, for one row of queries and one head: the new running
  maximum, the new sum of exponentials and the new weighted sum, each read at an index of the payload that stores it.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Flash

open Cert.KernelIdeal Cert.KernelIdeal.Gen

/-- The pattern of `-∞` is the least extended real. -/
theorem ofBits_negInf : Ideal.ofBits .f32 0xFF800000#32 = ⊥ := by
  simp [Ideal.ofBits, Ideal.ieee]

/-- The maximum after a block: the maximum before it, and the block's largest score. -/
def stepM (sc : Fin 1280 → EReal) (mo : EReal) : EReal := max mo (Finset.univ.fold max ⊥ sc)

/-- The sum of exponentials after a block: the one before, rescaled, and the block's own. -/
def stepL (sc : Fin 1280 → EReal) (mo lo : EReal) : EReal :=
  Ideal.exp (mo - stepM sc mo) * lo + ∑ i, Ideal.exp (sc i - stepM sc mo)

/-- The weighted sum after a block: the one before, rescaled, and the block's own. -/
def stepA (sc v : Fin 1280 → EReal) (mo ao : EReal) : EReal :=
  Ideal.exp (mo - stepM sc mo) * ao + ∑ i, Ideal.exp (sc i - stepM sc mo) * v i

/-- The score of a block's row of queries and one of its keys, for the block's head `a` of two. -/
def sc (q : Vec Ideal S1x1024x256 .bf16) (k : Vec Ideal S1x1280x256 .bf16) (a : Fin 2) (r : Fin 1024) (i : Fin 1280) : EReal :=
  ∑ d : Fin 128, q (ix3 0 r ⟨128 * a.val + d.val, by omega⟩) * k (ix3 0 i ⟨128 * a.val + d.val, by omega⟩)

variable (q : Vec Ideal S1x1024x256 .bf16) (k : Vec Ideal S1x1280x256 .bf16) (v : Vec Ideal S1x1280x128 .bf16)
variable (M L : Vec Ideal S1x1024x1 .f32) (A : Vec Ideal S1x1024x128 .f32)

theorem pay9_at (r : Fin 1024) (i : Fin 1280) : k0_pay9 (F := Ideal) q k (ix2 r i) = sc q k 0 r i := by
  pointwise [k0_pay9, sc]

theorem pay17_at (r : Fin 1024) (i : Fin 1280) : k0_pay17 (F := Ideal) q k (ix2 r i) = sc q k 1 r i := by
  pointwise [k0_pay17, sc]

/-- The largest entry of a row of a block of scores. -/
theorem rowmax_at (X : FVec Ideal S1024x1280 .f32) (r : Fin 1024) :
    multiReduction .maximumf [1] S1024 X 0xFF800000#32 reduces_S1024x1280_S1024 (.inl rfl) rfl (ix1 r)
      = Finset.univ.fold max ⊥ (fun i : Fin 1280 => X (ix2 r i)) := by
  rw [← ofBits_negInf]
  pointwise

theorem pay11_at (r : Fin 1024) : k0_pay11 (F := Ideal) q k M (ix2 r 0) = stepM (sc q k 0 r) (M (ix3 0 r 0)) := by
  have h := rowmax_at (k0_pay9 q k) r
  unfold k0_pay11
  generalize multiReduction (F := Ideal) .maximumf [1] S1024 (k0_pay9 q k) 0xFF800000#32 reduces_S1024x1280_S1024 (.inl rfl) rfl = Y at h ⊢
  pointwise [k0_pay10]
  rw [h, stepM]
  simp only [pay9_at]

theorem pay19_at (r : Fin 1024) : k0_pay19 (F := Ideal) q k M (ix2 r 0) = stepM (sc q k 1 r) (M (ix3 0 r 0)) := by
  have h := rowmax_at (k0_pay17 q k) r
  unfold k0_pay19
  generalize multiReduction (F := Ideal) .maximumf [1] S1024 (k0_pay17 q k) 0xFF800000#32 reduces_S1024x1280_S1024 (.inl rfl) rfl = Y at h ⊢
  pointwise [k0_pay18]
  rw [h, stepM]
  simp only [pay17_at]

theorem pay12_at (r : Fin 1024) (i : Fin 1280) :
    k0_pay12 (F := Ideal) q k M (ix2 r i) = Ideal.exp (sc q k 0 r i - stepM (sc q k 0 r) (M (ix3 0 r 0))) := by
  pointwise [k0_pay12]
  rw [pay9_at, pay11_at]

theorem pay20_at (r : Fin 1024) (i : Fin 1280) :
    k0_pay20 (F := Ideal) q k M (ix2 r i) = Ideal.exp (sc q k 1 r i - stepM (sc q k 1 r) (M (ix3 0 r 0))) := by
  pointwise [k0_pay20]
  rw [pay17_at, pay19_at]

theorem pay13_at (r : Fin 1024) : k0_pay13 (F := Ideal) q k M (ix2 r 0) = Ideal.exp (M (ix3 0 r 0) - stepM (sc q k 0 r) (M (ix3 0 r 0))) := by
  pointwise [k0_pay13, k0_pay10]
  rw [pay11_at]

theorem pay21_at (r : Fin 1024) : k0_pay21 (F := Ideal) q k M (ix2 r 0) = Ideal.exp (M (ix3 0 r 0) - stepM (sc q k 1 r) (M (ix3 0 r 0))) := by
  pointwise [k0_pay21, k0_pay18]
  rw [pay19_at]

/-- Head 0's new maximum, as stored. -/
theorem pay16_at (r : Fin 1024) (u : Fin 1) : k0_pay16 (F := Ideal) (k0_pay11 q k M) (ix3 0 r u) = stepM (sc q k 0 r) (M (ix3 0 r 0)) := by
  pointwise [k0_pay16]
  exact pay11_at q k M r

/-- Head 1's new maximum, as stored. -/
theorem pay3_at (r : Fin 1024) (u : Fin 1) : k0_pay3 (F := Ideal) (k0_pay19 q k M) (ix3 0 r u) = stepM (sc q k 1 r) (M (ix3 0 r 0)) := by
  pointwise [k0_pay3]
  exact pay19_at q k M r

/-- Head 0's new sum of exponentials, as stored. -/
theorem pay14_at (r : Fin 1024) (u : Fin 1) : k0_pay14 (F := Ideal) q k M L (ix3 0 r u) = stepL (sc q k 0 r) (M (ix3 0 r 0)) (L (ix3 0 r 0)) := by
  pointwise [k0_pay14, stepL]
  simp only [pay12_at, pay13_at]

/-- Head 1's new sum of exponentials, as stored. -/
theorem pay1_at (r : Fin 1024) (u : Fin 1) :
    k0_pay1 (F := Ideal) (k0_pay20 q k M) (k0_pay22 q k M L) (ix3 0 r u) = stepL (sc q k 1 r) (M (ix3 0 r 0)) (L (ix3 0 r 0)) := by
  pointwise [k0_pay1, k0_pay22, stepL]
  simp only [pay20_at, pay21_at]

/-- Head 0's new weighted sum, as stored. -/
theorem pay15_at (r : Fin 1024) (l : Fin 128) :
    k0_pay15 (F := Ideal) (k0_pay8 v) (k0_pay12 q k M) (k0_pay13 q k M) A (ix3 0 r l)
      = stepA (sc q k 0 r) (fun i => v (ix3 0 i l)) (M (ix3 0 r 0)) (A (ix3 0 r l)) := by
  pointwise [k0_pay15, k0_pay8, stepA]
  simp only [pay12_at, pay13_at]

/-- Head 1's new weighted sum, as stored. -/
theorem pay2_at (r : Fin 1024) (l : Fin 128) :
    k0_pay2 (F := Ideal) (k0_pay8 v) (k0_pay20 q k M) (k0_pay21 q k M) A (ix3 0 r l)
      = stepA (sc q k 1 r) (fun i => v (ix3 0 i l)) (M (ix3 0 r 0)) (A (ix3 0 r l)) := by
  pointwise [k0_pay2, k0_pay8, stepA]
  simp only [pay20_at, pay21_at]

/-- The output's block: each head's weighted sum over its sum of exponentials, head 0 in the first 64 lanes, head 1 in the others. -/
theorem pay4_at (A0 : Vec Ideal S1x1024x128 .f32) (L0 : Vec Ideal S1x1024x1 .f32) (A1 : Vec Ideal S1x1024x128 .f32) (L1 : Vec Ideal S1x1024x1 .f32)
    (r : Fin 1024) (l : Fin 128) :
    k0_pay4 (F := Ideal) A0 L0 A1 L1 (ix3 0 r l)
      = if l.val < 64 then Ideal.div (A0 (ix3 0 r l)) (L0 (ix3 0 r 0)) else Ideal.div (A1 (ix3 0 r l)) (L1 (ix3 0 r 0)) := by
  pointwise [k0_pay4]
  have h : ∀ l : Fin 128, IntOp.cmpi .slt (BitVec.ofNat 32 l.val) 64#32 = BitVec.ofBool (decide (l.val < 64)) := by decide +kernel
  rw [h l]
  by_cases hl : l.val < 64 <;> simp [hl, Scalar.select]

/-- The reset of the maxima. -/
theorem pay5_at (y) : k0_pay5 (F := Ideal) y = (⊥ : EReal) := by
  pointwise [k0_pay5]
  exact ofBits_negInf

/-- The reset of the sums of exponentials. -/
theorem pay6_at (y) : k0_pay6 (F := Ideal) y = (0 : EReal) := by
  pointwise [k0_pay6]

/-- The reset of the weighted sums. -/
theorem pay7_at (y) : k0_pay7 (F := Ideal) y = (0 : EReal) := by
  pointwise [k0_pay7]

/-- A buffer of two heads' numbers whose two halves were stored one by one, over anything stored earlier, read at an index. -/
theorem canon_col (P1 P0 : S1x1024x1.Idx → Elt Ideal .f32) (rest : List (View.Piece (Elt Ideal) S2x1024x1 .f32)) (G : Fin 2 → Fin 1024 → Elt Ideal .f32)
    (g1 : ∀ r, P1 (ix3 0 r 0) = G 1 r) (g0 : ∀ r, P0 (ix3 0 r 0) = G 0 r) (a : Fin 2) (r : Fin 1024) :
    View.canon
      (⟨Rect.unit ![1, 0, 0] ![1, 1024, 1] inb_S2x1024x1_S1x1024x1_1_0_0, P1⟩
        :: ⟨Rect.unit ![0, 0, 0] ![1, 1024, 1] inb_S2x1024x1_S1x1024x1_0_0_0, P0⟩ :: rest) (ix3 a r 0) = G a r := by
  by_cases ha : a = 1
  · subst ha
    rw [← g1]
    have e : ix3 (1 : Fin 2) r (0 : Fin 1) = (Rect.unit (s := S2x1024x1) ![1, 0, 0] ![1, 1024, 1] inb_S2x1024x1_S1x1024x1_1_0_0).emb (ix3 (0 : Fin 1) r (0 : Fin 1)) := by
      funext b; apply Fin.ext
      match b with
      | ⟨0, _⟩ => rfl
      | ⟨1, _⟩ => simp
      | ⟨2, _⟩ => rfl
    rw [e]
    exact View.canon_cons_emb _ _ _ _
  · obtain rfl : a = 0 := by omega
    rw [← g0]
    have e : ix3 (0 : Fin 2) r (0 : Fin 1) = (Rect.unit (s := S2x1024x1) ![0, 0, 0] ![1, 1024, 1] inb_S2x1024x1_S1x1024x1_0_0_0).emb (ix3 (0 : Fin 1) r (0 : Fin 1)) := by
      funext b; apply Fin.ext
      match b with
      | ⟨0, _⟩ => rfl
      | ⟨1, _⟩ => simp
      | ⟨2, _⟩ => rfl
    rw [View.canon_cons_of_not_mem]
    · rw [e]
      exact View.canon_cons_emb _ _ _ _
    · rw [Rect.mem_set_unit]
      intro h
      exact absurd (show 1 ≤ 0 from (h 0).1) (by decide)

/-- The same for the buffer of two heads' weighted sums. -/
theorem canon_mat (P1 P0 : S1x1024x128.Idx → Elt Ideal .f32) (rest : List (View.Piece (Elt Ideal) S2x1024x128 .f32)) (G : Fin 2 → Fin 1024 → Fin 128 → Elt Ideal .f32)
    (g1 : ∀ r l, P1 (ix3 0 r l) = G 1 r l) (g0 : ∀ r l, P0 (ix3 0 r l) = G 0 r l) (a : Fin 2) (r : Fin 1024) (l : Fin 128) :
    View.canon
      (⟨Rect.unit ![1, 0, 0] ![1, 1024, 128] inb_S2x1024x128_S1x1024x128_1_0_0, P1⟩
        :: ⟨Rect.unit ![0, 0, 0] ![1, 1024, 128] inb_S2x1024x128_S1x1024x128_0_0_0, P0⟩ :: rest) (ix3 a r l) = G a r l := by
  by_cases ha : a = 1
  · subst ha
    rw [← g1]
    have e : ix3 (1 : Fin 2) r l = (Rect.unit (s := S2x1024x128) ![1, 0, 0] ![1, 1024, 128] inb_S2x1024x128_S1x1024x128_1_0_0).emb (ix3 (0 : Fin 1) r l) := by
      funext b; apply Fin.ext
      match b with
      | ⟨0, _⟩ => rfl
      | ⟨1, _⟩ => simp
      | ⟨2, _⟩ => simp
    rw [e]
    exact View.canon_cons_emb _ _ _ _
  · obtain rfl : a = 0 := by omega
    rw [← g0]
    have e : ix3 (0 : Fin 2) r l = (Rect.unit (s := S2x1024x128) ![0, 0, 0] ![1, 1024, 128] inb_S2x1024x128_S1x1024x128_0_0_0).emb (ix3 (0 : Fin 1) r l) := by
      funext b; apply Fin.ext
      match b with
      | ⟨0, _⟩ => rfl
      | ⟨1, _⟩ => simp
      | ⟨2, _⟩ => simp
    rw [View.canon_cons_of_not_mem]
    · rw [e]
      exact View.canon_cons_emb _ _ _ _
    · rw [Rect.mem_set_unit]
      intro h
      exact absurd (show 1 ≤ 0 from (h 0).1) (by decide)

end Cert.KernelIdeal.Flash
-- ==== Proof.FlashState.lean ====
/-
  What one grid point of the attention kernel leaves in its three carried scratch buffers (the running maximum, the running
  sum of exponentials, the running weighted sum of values) over what the point before left, and what the last point of a
  row of points writes to the output's block.
-/
module

public import proofs.«01_k».proof.Proof.Gen.KernelIdeal.Frame
public import proofs.«01_k».proof.Proof.FlashPayload
public import Idealize.ShloMosaic.Lib.Pipeline.ReadBack

@[expose] public section

set_option maxRecDepth 16384

noncomputable section

open Idealize.ShloMosaic Idealize.ShloMosaic.TcCoe Idealize.SL.Sem

namespace Cert.KernelIdeal.Flash

open Cert.KernelIdeal Cert.KernelIdeal.Gen

variable (m : (ℓ : Loc nD τ sig) → Buf (Elt Ideal) ℓ)

/-- The scores of a point's block. -/
abbrev scAt (c : Dev nD) (t : Fin cfg0.N) (a : Fin 2) (r : Fin 1024) : Fin 1280 → EReal := sc (iblk m c 0 t) (iblk m c 1 t) a r

/-- The values of a point's block, one lane of them. -/
abbrev vAt (c : Dev nD) (t : Fin cfg0.N) (l : Fin 128) : Fin 1280 → EReal :=
  fun i => (show Vec Ideal S1x1280x128 .bf16 from iblk m c 2 t) (ix3 0 i l)

/-- The running maximum that point `n` leaves, for a head and a row. -/
abbrev Mx (c : Dev nD) (n : ℕ) (hn : n < cfg0.N) (a : Fin 2) (r : Fin 1024) : EReal := (outsAt0 m c n hn).2.1 (ix3 a r 0)

/-- The running sum of exponentials that point `n` leaves. -/
abbrev Lx (c : Dev nD) (n : ℕ) (hn : n < cfg0.N) (a : Fin 2) (r : Fin 1024) : EReal := (outsAt0 m c n hn).2.2.1 (ix3 a r 0)

/-- The running weighted sum that point `n` leaves. -/
abbrev Ax (c : Dev nD) (n : ℕ) (hn : n < cfg0.N) (a : Fin 2) (r : Fin 1024) (l : Fin 128) : EReal := (outsAt0 m c n hn).2.2.2 (ix3 a r l)

/-- The point before. -/
theorem pred_lt {n N : ℕ} (h : n < N) : n - 1 < N := Nat.lt_of_le_of_lt (Nat.sub_le _ _) h

variable (c : Dev nD) (t : Fin cfg0.N)

/-- At the first point of a row of points the maximum is that of the block. -/
theorem Mx_first (h0 : t.val % 13 = 0) (a : Fin 2) (r : Fin 1024) : Mx m c t.val t.isLt a r = stepM (scAt m c t a r) ⊥ := by
  have h1 : ¬t.val % 13 = 12 := by omega
  unfold Mx
  rw [outsAt0_A m c t h0 h1]
  frame_open
  simp (disch := decide) only [↓ View.readCov_skip, ↓ View.readCov_cons_toLoadRect, ↓ View.readCov_fill]
  frame_out
  refine canon_col _ _ _ (fun a r => stepM (scAt m c t a r) ⊥) (fun r => ?_) (fun r => ?_) a r
  · rw [pay3_at, View.ld_apply, pay5_at]
  · rw [pay16_at, View.ld_apply, pay5_at]

/-- At the first point of a row of points the sum of exponentials is that of the block, over nothing. -/
theorem Lx_first (h0 : t.val % 13 = 0) (a : Fin 2) (r : Fin 1024) : Lx m c t.val t.isLt a r = stepL (scAt m c t a r) ⊥ 0 := by
  have h1 : ¬t.val % 13 = 12 := by omega
  unfold Lx
  rw [outsAt0_A m c t h0 h1]
  frame_open
  simp (disch := decide) only [↓ View.readCov_skip, ↓ View.readCov_cons_toLoadRect, ↓ View.readCov_fill]
  frame_out
  refine canon_col _ _ _ (fun a r => stepL (scAt m c t a r) ⊥ 0) (fun r => ?_) (fun r => ?_) a r
  · rw [pay1_at, View.ld_apply, pay5_at, View.ld_apply, pay6_at]
  · rw [pay14_at, View.ld_apply, pay5_at, View.ld_apply, pay6_at]

/-- At the first point of a row of points the weighted sum is that of the block, over nothing. -/
theorem Ax_first (h0 : t.val % 13 = 0) (a : Fin 2) (r : Fin 1024) (l : Fin 128) :
    Ax m c t.val t.isLt a r l = stepA (scAt m c t a r) (vAt m c t l) ⊥ 0 := by
  have h1 : ¬t.val % 13 = 12 := by omega
  unfold Ax
  rw [outsAt0_A m c t h0 h1]
  frame_open
  simp (disch := decide) only [↓ View.readCov_skip, ↓ View.readCov_cons_toLoadRect, ↓ View.readCov_fill]
  frame_out
  refine canon_mat _ _ _ (fun a r l => stepA (scAt m c t a r) (vAt m c t l) ⊥ 0) (fun r l => ?_) (fun r l => ?_) a r l
  · rw [pay2_at, View.ld_apply, pay5_at, View.ld_apply, pay7_at]
  · rw [pay15_at, View.ld_apply, pay5_at, View.ld_apply, pay7_at]

/-- The half of a buffer of two heads' numbers that head 1 loads. -/
theorem ld_col1 (X : S2x1024x1.Idx → Elt Ideal .f32) (r : Fin 1024) :
    View.ld X (Rect.unit ![1, 0, 0] ![1, 1024, 1] inb_S2x1024x1_S1x1024x1_1_0_0) (ix3 0 r 0) = X (ix3 1 r 0) := by
  pointwise

/-- The half that head 0 loads. -/
theorem ld_col0 (X : S2x1024x1.Idx → Elt Ideal .f32) (r : Fin 1024) :
    View.ld X (Rect.unit ![0, 0, 0] ![1, 1024, 1] inb_S2x1024x1_S1x1024x1_0_0_0) (ix3 0 r 0) = X (ix3 0 r 0) := by
  pointwise

/-- The half of a buffer of two heads' weighted sums that head 1 loads. -/
theorem ld_mat1 (X : S2x1024x128.Idx → Elt Ideal .f32) (r : Fin 1024) (l : Fin 128) :
    View.ld X (Rect.unit ![1, 0, 0] ![1, 1024, 128] inb_S2x1024x128_S1x1024x128_1_0_0) (ix3 0 r l) = X (ix3 1 r l) := by
  pointwise

/-- The half that head 0 loads. -/
theorem ld_mat0 (X : S2x1024x128.Idx → Elt Ideal .f32) (r : Fin 1024) (l : Fin 128) :
    View.ld X (Rect.unit ![0, 0, 0] ![1, 1024, 128] inb_S2x1024x128_S1x1024x128_0_0_0) (ix3 0 r l) = X (ix3 0 r l) := by
  pointwise

/-- At a later point the maximum is the step over what the point before left. -/
theorem Mx_next (h0 : ¬t.val % 13 = 0) (a : Fin 2) (r : Fin 1024) :
    Mx m c t.val t.isLt a r = stepM (scAt m c t a r) (Mx m c (t.val - 1) (pred_lt t.isLt) a r) := by
  unfold Mx
  by_cases h1 : t.val % 13 = 12
  · rw [outsAt0_C m c t h0 h1]
    frame_open
    simp (disch := decide) only [↓ View.readCov_skip, ↓ View.readCov_cons_toLoadRect, ↓ View.readCov_fill]
    frame_out
    simp only [read_unread_whole]
    refine canon_col _ _ _ (fun a r => stepM (scAt m c t a r) (Mx m c (t.val - 1) (pred_lt t.isLt) a r)) (fun r => ?_) (fun r => ?_) a r
    · rw [pay3_at, ld_col1]
    · rw [pay16_at, ld_col0]
  · rw [outsAt0_B m c t h0 h1]
    frame_open
    simp (disch := decide) only [↓ View.readCov_skip, ↓ View.readCov_cons_toLoadRect, ↓ View.readCov_fill]
    frame_out
    simp only [read_unread_whole]
    refine canon_col _ _ _ (fun a r => stepM (scAt m c t a r) (Mx m c (t.val - 1) (pred_lt t.isLt) a r)) (fun r => ?_) (fun r => ?_) a r
    · rw [pay3_at, ld_col1]
    · rw [pay16_at, ld_col0]

/-- At a later point the sum of exponentials is the step over what the point before left. -/
theorem Lx_next (h0 : ¬t.val % 13 = 0) (a : Fin 2) (r : Fin 1024) :
    Lx m c t.val t.isLt a r
      = stepL (scAt m c t a r) (Mx m c (t.val - 1) (pred_lt t.isLt) a r) (Lx m c (t.val - 1) (pred_lt t.isLt) a r) := by
  unfold Lx
  by_cases h1 : t.val % 13 = 12
  · rw [outsAt0_C m c t h0 h1]
    frame_open
    simp (disch := decide) only [↓ View.readCov_skip, ↓ View.readCov_cons_toLoadRect, ↓ View.readCov_fill]
    frame_out
    simp only [read_unread_whole]
    refine canon_col _ _ _ (fun a r => stepL (scAt m c t a r) (Mx m c (t.val - 1) (pred_lt t.isLt) a r) (Lx m c (t.val - 1) (pred_lt t.isLt) a r))
      (fun r => ?_) (fun r => ?_) a r
    · rw [pay1_at, ld_col1, ld_col1]
    · rw [pay14_at, ld_col0, ld_col0]
  · rw [outsAt0_B m c t h0 h1]
    frame_open
    simp (disch := decide) only [↓ View.readCov_skip, ↓ View.readCov_cons_toLoadRect, ↓ View.readCov_fill]
    frame_out
    simp only [read_unread_whole]
    refine canon_col _ _ _ (fun a r => stepL (scAt m c t a r) (Mx m c (t.val - 1) (pred_lt t.isLt) a r) (Lx m c (t.val - 1) (pred_lt t.isLt) a r))
      (fun r => ?_) (fun r => ?_) a r
    · rw [pay1_at, ld_col1, ld_col1]
    · rw [pay14_at, ld_col0, ld_col0]

/-- At a later point the weighted sum is the step over what the point before left. -/
theorem Ax_next (h0 : ¬t.val % 13 = 0) (a : Fin 2) (r : Fin 1024) (l : Fin 128) :
    Ax m c t.val t.isLt a r l
      = stepA (scAt m c t a r) (vAt m c t l) (Mx m c (t.val - 1) (pred_lt t.isLt) a r) (Ax m c (t.val - 1) (pred_lt t.isLt) a r l) := by
  unfold Ax
  by_cases h1 : t.val % 13 = 12
  · rw [outsAt0_C m c t h0 h1]
    frame_open
    simp (disch := decide) only [↓ View.readCov_skip, ↓ View.readCov_cons_toLoadRect, ↓ View.readCov_fill]
    frame_out
    simp only [read_unread_whole]
    refine canon_mat _ _ _ (fun a r l => stepA (scAt m c t a r) (vAt m c t l) (Mx m c (t.val - 1) (pred_lt t.isLt) a r) (Ax m c (t.val - 1) (pred_lt t.isLt) a r l))
      (fun r l => ?_) (fun r l => ?_) a r l
    · rw [pay2_at, ld_col1, ld_mat1]
    · rw [pay15_at, ld_col0, ld_mat0]
  · rw [outsAt0_B m c t h0 h1]
    frame_open
    simp (disch := decide) only [↓ View.readCov_skip, ↓ View.readCov_cons_toLoadRect, ↓ View.readCov_fill]
    frame_out
    simp only [read_unread_whole]
    refine canon_mat _ _ _ (fun a r l => stepA (scAt m c t a r) (vAt m c t l) (Mx m c (t.val - 1) (pred_lt t.isLt) a r) (Ax m c (t.val - 1) (pred_lt t.isLt) a r l))
      (fun r l => ?_) (fun r l => ?_) a r l
    · rw [pay2_at, ld_col1, ld_mat1]
    · rw [pay15_at, ld_col0, ld_mat0]

/-- The last point of a row of points writes, in each lane, its head's weighted sum over its head's sum of exponentials. -/
theorem out_last (h1 : t.val % 13 = 12) (r : Fin 1024) (l : Fin 128) (a : Fin 2) (ha : a.val = l.val / 64) :
    (outsAt0 m c t.val t.isLt).1 (ix3 0 r l) = Ideal.div (Ax m c t.val t.isLt a r l) (Lx m c t.val t.isLt a r) := by
  have h0 : ¬t.val % 13 = 0 := by omega
  rw [Ax_next m c t h0, Lx_next m c t h0]
  rw [outsAt0_C m c t h0 h1]
  frame_open
  simp (disch := decide) only [↓ View.readCov_skip, ↓ View.readCov_cons_toLoadRect, ↓ View.readCov_fill]
  frame_out
  simp only [read_unread_whole]
  rw [pay4_at, pay15_at, pay14_at, pay2_at, pay1_at, ld_col0, ld_col0, ld_col1, ld_col1, ld_mat0, ld_mat1]
  by_cases hl : l.val < 64
  · obtain rfl : a = 0 := Fin.ext (by show a.val = 0; omega)
    rw [if_pos hl]
  · obtain rfl : a = 1 := Fin.ext (by show a.val = 1; omega)
    rw [if_neg hl]

end Cert.KernelIdeal.Flash
-- ==== Proof.FlashValue.lean ====
/-
  The attention kernel's result array: at every batch, query and lane, the weighted sum of the values of that lane over the
  sum of the exponentials of the scores, both over all 16640 keys.
-/
module

public import proofs.«01_k».proof.Proof.FlashState
public import proofs.«01_k».proof.Proof.OnlineSoftmax
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen

variable (m : (ℓ : Loc nD τ sig) → Buf (Elt Ideal) ℓ) (c : Dev nD)

/-- The queries, the joined keys and the joined values, as the region finds them. -/
abbrev Q : Vec Ideal S2x16384x1024 .bf16 := V m c main_arg0
abbrev K : Vec Ideal S2x16640x1024 .bf16 := V m c main_v0
abbrev W : Vec Ideal S2x16640x512 .bf16 := V m c main_v1

/-- The scores of a query with every key, for one head. -/
def srow (b : Fin 2) (h : Fin 8) (row : Fin 16384) (k : ℕ) : EReal :=
  if hk : k < 16640 then ∑ d : Fin 128, Q m c (ix3 b row ⟨128 * h.val + d.val, by omega⟩) * K m c (ix3 b ⟨k, hk⟩ ⟨128 * h.val + d.val, by omega⟩) else 0

/-- One lane of the values of every key. -/
def vrow (b : Fin 2) (l : Fin 512) (k : ℕ) : EReal := if hk : k < 16640 then W m c (ix3 b ⟨k, hk⟩ l) else 0

/-- The index maps: batch, pair of heads, block of queries and block of keys of a point. -/
theorem idx : ∀ t : Fin cfg0.N, win0_0.index t = ![t.val / 832, t.val / 13 % 16, t.val / 208 % 4] ∧ win0_1.index t = ![t.val / 832, t.val % 13, t.val / 208 % 4]
    ∧ win0_2.index t = ![t.val / 832, t.val % 13, t.val / 208 % 4] ∧ win0_3.index t = ![t.val / 832, t.val / 13 % 16, t.val / 208 % 4] ∧ t.val < 1664 :=
  (by decide +kernel : ∀ t : Fin grid0.N, _)

/-- The batch of the row of points `R`, its head for half `a`, the query of its row `r` and the array lane of its lane `l`. -/
abbrev bOf (R : Fin 128) : Fin 2 := ⟨R.val / 64, by omega⟩
abbrev hOf (R : Fin 128) (a : Fin 2) : Fin 8 := ⟨2 * (R.val / 16 % 4) + a.val, by omega⟩
abbrev qOf (R : Fin 128) (r : Fin 1024) : Fin 16384 := ⟨1024 * (R.val % 16) + r.val, by omega⟩
abbrev lOf (R : Fin 128) (l : Fin 128) : Fin 512 := ⟨128 * (R.val / 16 % 4) + l.val, by omega⟩

/-- The row of points of a point. -/
abbrev rOf (n : ℕ) (hn : n < cfg0.N) : Fin 128 := ⟨n / 13, by have : cfg0.N = 1664 := N_0; omega⟩

/-- A point's block of scores is a stretch of the row's scores. -/
theorem scAt_eq (t : Fin cfg0.N) (a : Fin 2) (r : Fin 1024) :
    scAt m c t a r = fun i => srow m c (bOf (rOf t.val t.isLt)) (hOf (rOf t.val t.isLt) a) (qOf (rOf t.val t.isLt) r) (1280 * (t.val % 13) + i.val) := by
  funext i
  have hi := idx t
  rw [srow, dif_pos (by omega)]
  unfold scAt sc
  blk_point [iblk, idx t]

/-- A point's block of values is a stretch of the lane's values. -/
theorem vAt_eq (t : Fin cfg0.N) (l : Fin 128) :
    vAt m c t l = fun i => vrow m c (bOf (rOf t.val t.isLt)) (lOf (rOf t.val t.isLt) l) (1280 * (t.val % 13) + i.val) := by
  funext i
  have hi := idx t
  rw [vrow, dif_pos (by omega)]
  unfold vAt
  blk_point [iblk, idx t]

end Cert.KernelIdeal.Flash
-- ==== Proof.FlashResult.lean ====
/-
  The fold of the attention kernel's blocks of keys, and its result array. By induction on the point, the scratch buffers hold
  the maximum, the sum of exponentials and the weighted sum of the keys taken so far; the last point of a row of points has
  taken all 16640.
-/
module

public import proofs.«01_k».proof.Proof.FlashValue

@[expose] public section

set_option maxRecDepth 16384

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Online

variable (m : (ℓ : Loc nD τ sig) → Buf (Elt Ideal) ℓ) (c : Dev nD)

/-- The scores and the values behind one row of one half of a row of points. -/
abbrev sOf (R : Fin 128) (a : Fin 2) (r : Fin 1024) : ℕ → EReal := srow m c (bOf R) (hOf R a) (qOf R r)
abbrev wOf (R : Fin 128) (l : Fin 128) : ℕ → EReal := vrow m c (bOf R) (lOf R l)

/-- A block's step on the maximum takes the maximum of `n` scores to that of `n + 1280`. -/
theorem stepM_mx (s : ℕ → EReal) (n : ℕ) : stepM (fun i => s (n + i.val)) (mx s n) = mx s (n + 1280) := mx_add s n 1280

/-- A block's step on the sum of exponentials takes that of `n` scores to that of `n + 1280`. -/
theorem stepL_den {s : ℕ → EReal} (hs : Fin' s) (n : ℕ) : stepL (fun i => s (n + i.val)) (mx s n) (den s n) = den s (n + 1280) := by
  rw [stepL, stepM_mx]
  exact den_add hs n (by decide)

/-- A block's step on the weighted sum takes that of `n` keys to that of `n + 1280`. -/
theorem stepA_num {s : ℕ → EReal} (hs : Fin' s) (v : ℕ → EReal) (n : ℕ) :
    stepA (fun i => s (n + i.val)) (fun i => v (n + i.val)) (mx s n) (num s v n) = num s v (n + 1280) := by
  rw [stepA, stepM_mx]
  exact num_add hs v n (by decide)

theorem mx_zero (s : ℕ → EReal) : mx s 0 = ⊥ := rfl
theorem den_zero (s : ℕ → EReal) : den s 0 = 0 := rfl
theorem num_zero (s v : ℕ → EReal) : num s v 0 = 0 := rfl

/-- What the three scratch buffers hold after point `n`. -/
theorem fold (hs : ∀ b h row, Fin' (srow m c b h row)) : ∀ (n : ℕ) (hn : n < cfg0.N) (a : Fin 2) (r : Fin 1024),
    Mx m c n hn a r = mx (sOf m c (rOf n hn) a r) (1280 * (n % 13) + 1280)
    ∧ Lx m c n hn a r = den (sOf m c (rOf n hn) a r) (1280 * (n % 13) + 1280)
    ∧ ∀ l, Ax m c n hn a r l = num (sOf m c (rOf n hn) a r) (wOf m c (rOf n hn) l) (1280 * (n % 13) + 1280) := by
  intro n
  induction n with
  | zero =>
    intro hn a r
    have h0 : (⟨0, hn⟩ : Fin cfg0.N).val % 13 = 0 := rfl
    refine ⟨?_, ?_, fun l => ?_⟩
    · rw [Mx_first m c ⟨0, hn⟩ h0, scAt_eq, ← stepM_mx, ← mx_zero]
    · rw [Lx_first m c ⟨0, hn⟩ h0, scAt_eq, ← stepL_den (hs _ _ _), ← mx_zero, ← den_zero]
    · rw [Ax_first m c ⟨0, hn⟩ h0, scAt_eq, vAt_eq, ← stepA_num (hs _ _ _), ← mx_zero, ← num_zero]
  | succ n ih =>
    intro hn a r
    by_cases h0 : (n + 1) % 13 = 0
    · refine ⟨?_, ?_, fun l => ?_⟩
      · rw [Mx_first m c ⟨n + 1, hn⟩ h0, scAt_eq, ← stepM_mx]
        simp only [h0, Nat.mul_zero, mx_zero]
      · rw [Lx_first m c ⟨n + 1, hn⟩ h0, scAt_eq, ← stepL_den (hs _ _ _)]
        simp only [h0, Nat.mul_zero, mx_zero, den_zero]
      · rw [Ax_first m c ⟨n + 1, hn⟩ h0, scAt_eq, vAt_eq, ← stepA_num (hs _ _ _)]
        simp only [h0, Nat.mul_zero, mx_zero, num_zero]
    · obtain ⟨iM, iL, iA⟩ := ih (Nat.lt_of_succ_lt hn) a r
      have hR : rOf n (Nat.lt_of_succ_lt hn) = rOf (n + 1) hn := Fin.ext (by show n / 13 = (n + 1) / 13; omega)
      have hj : 1280 * (n % 13) + 1280 = 1280 * ((n + 1) % 13) := by omega
      rw [hR, hj] at iM iL
      simp only [hR, hj] at iA
      refine ⟨?_, ?_, fun l => ?_⟩
      · rw [Mx_next m c ⟨n + 1, hn⟩ h0, scAt_eq, ← stepM_mx]
        exact congrArg _ iM
      · rw [Lx_next m c ⟨n + 1, hn⟩ h0, scAt_eq, ← stepL_den (hs _ _ _)]
        exact congrArg₂ _ iM iL
      · rw [Ax_next m c ⟨n + 1, hn⟩ h0, scAt_eq, vAt_eq, ← stepA_num (hs _ _ _)]
        exact congrArg₂ _ iM (iA l)

/-- The attention, at a batch, a query and a lane of the result. -/
def G (b : Fin 2) (row : Fin 16384) (l : Fin 512) : EReal :=
  Ideal.div (num (srow m c b ⟨l.val / 64, by omega⟩ row) (vrow m c b l) 16640) (den (srow m c b ⟨l.val / 64, by omega⟩ row) 16640)

/-- The written-back blocks cover the result array. -/
theorem covers : (cfg0.win 3).Covers := by decide +kernel

/-- The result array after the run. -/
theorem final (hs : ∀ b h row, Fin' (srow m c b h row)) :
    (dats m 0 c).arrAt 3 cfg0.N = fun i : S2x16384x512.Idx => G m c (i 0) (i 1) (i 2) := by
  refine (dats m 0 c).arrAt_eq_of_covers 3 _ covers fun t hf y => ?_
  have h12 := (flush0_3 t).mp hf
  have hi := idx t
  blk_simp
  rw [after0_3]
  obtain ⟨u, r, l, rfl⟩ : ∃ u r l, y = (ix3 u r l : S1x1024x128.Idx) := ⟨y 0, y 1, y 2, by funext a; fin_cases a <;> rfl⟩
  obtain rfl : u = 0 := Fin.fin_one_eq_zero u
  rw [out_last m c t h12 r l ⟨l.val / 64, by omega⟩ rfl]
  obtain ⟨_, hL, hA⟩ := fold m c hs t.val t.isLt ⟨l.val / 64, by omega⟩ r
  rw [hL, hA l, h12]
  have v0 : ((win0_3.blk t).view.emb (ix3 0 r l) 0).val = t.val / 13 / 64 := by blk_simp [hi.2.2.2.1]; omega
  have e0 : (win0_3.blk t).view.emb (ix3 0 r l) 0 = bOf (rOf t.val t.isLt) := Fin.ext v0
  have v1 : ((win0_3.blk t).view.emb (ix3 0 r l) 1).val = 1024 * (t.val / 13 % 16) + r.val := by blk_simp [hi.2.2.2.1]; omega
  have e1 : (win0_3.blk t).view.emb (ix3 0 r l) 1 = qOf (rOf t.val t.isLt) r := Fin.ext v1
  have v2 : ((win0_3.blk t).view.emb (ix3 0 r l) 2).val = 128 * (t.val / 13 / 16 % 4) + l.val := by blk_simp [hi.2.2.2.1]; omega
  have e2 : (win0_3.blk t).view.emb (ix3 0 r l) 2 = lOf (rOf t.val t.isLt) l := Fin.ext v2
  have e3 : (⟨(lOf (rOf t.val t.isLt) l).val / 64, by omega⟩ : Fin 8) = hOf (rOf t.val t.isLt) ⟨l.val / 64, by omega⟩ :=
    Fin.ext (by show (128 * (t.val / 13 / 16 % 4) + l.val) / 64 = 2 * (t.val / 13 / 16 % 4) + l.val / 64; omega)
  refine Eq.trans ?_ (congr (congr (congrArg (G m c) e0.symm) e1.symm) e2.symm)
  rw [G, e3]

end Cert.KernelIdeal.Flash
-- ==== Proof.FlashEquation.lean ====
/-
  The attention kernel against its reference: the reference's row of scores is the kernel's, so is its row of values, and the
  precondition makes every score finite; then the two results are equal at every index.
-/
module

public import proofs.«01_k».proof.Proof.FlashReference
public import proofs.«01_k».proof.Proof.FlashResult
public import proofs.«01_k».proof.Defs

@[expose] public section

set_option maxRecDepth 16384

noncomputable section

open Idealize.ShloMosaic Idealize.ShloMosaic.TcCoe Idealize.SL.Sem
open Idealize.ShloMosaic.Pipeline (Dat)

namespace Cert.ReferenceIdeal.Attention

open Cert.Online

/-- A row of the reference is the weighted sum of the values over the sum of the exponentials. -/
theorem ref_at (S : FVec Ideal S2x8x16384x16640 .f32) (v : Vec Ideal S2x16640x512 .bf16) (b : Fin 2) (i : Fin 16384) (l : Fin 512)
    (s w : ℕ → EReal) (hs : Fin' s) (hS : ∀ j : Fin 16640, S (ix4 b ⟨l.val / 64, by omega⟩ i j) = s j.val)
    (hw : ∀ j : Fin 16640, v (ix3 b j l) = w j.val) :
    mixed v (normed (exps S (rowMax S))) (ix3 b i l) = Ideal.div (num s w 16640) (den s 16640) := by
  have hm : (Finset.univ.fold max ⊥ fun j : Fin 16640 => s j.val) = mx s 16640 := by
    have h := mx_add s 0 16640
    simp only [Nat.zero_add] at h
    rw [← h]
    exact (bot_sup_eq _).symm
  rw [mixed_at, num_div_den hs w (by decide), Finset.sum_range]
  refine Finset.sum_congr rfl fun j _ => ?_
  rw [normed_at]
  simp only [exps_at, rowMax_at, hS, hw, hm]
  rw [den, Finset.sum_range]

end Cert.ReferenceIdeal.Attention

namespace Cert.KernelIdeal.Flash

open Cert.KernelIdeal Cert.KernelIdeal.Gen Cert.Online

/-- A number whose magnitude is less than +∞ is real. -/
theorem real_of_abs_lt {x : EReal} (h : BitVec.ofBool (decide (FloatOps.absf (F := Ideal) (φ := .f32) x < Ideal.ofBits .f32 0x7F800000#32)) = 1#1) :
    ∃ r : ℝ, x = r := by
  have hb : (Ideal.ofBits .f32 0x7F800000#32 : EReal) = ⊤ := by simp [Ideal.ofBits, Ideal.ieee]
  rw [hb] at h
  have hlt : FloatOps.absf (F := Ideal) (φ := .f32) x < (⊤ : EReal) := by
    by_contra hc
    rw [decide_eq_false hc] at h
    exact absurd h (by decide)
  induction x with
  | bot => simp [Ideal.absf_def] at hlt
  | top => simp [Ideal.absf_def] at hlt
  | coe r => exact ⟨r, rfl⟩

section Finite

variable [Cert.Pre_finite_scores.Facts] {x0 : FVec Ideal S2x16384x1024 .bf16} {x1 : FVec Ideal S2x256x1024 .bf16} {x2 : FVec Ideal S2x16384x1024 .bf16}
    {x3 : FVec Ideal S2x256x512 .bf16} {x4 : FVec Ideal S2x16384x512 .bf16}

/-- The precondition read at an index: the queries and both parts of the keys joined hold reals only. -/
theorem pre_at (h : Cert.Pre_finite_scores.fn (F := Ideal) x0 x1 x2 x3 x4 = fun _ => 1#1) (b : Fin 2) (n : Fin 33024) (l : Fin 1024) :
    ∃ r : ℝ, (if h : n.val < 16384 then x0 (ix3 b ⟨n.val, h⟩ l)
      else if h' : n.val - 16384 < 256 then x1 (ix3 b ⟨n.val - 16384, h'⟩ l) else x2 (ix3 b ⟨n.val - 16384 - 256, by omega⟩ l)) = ((r : ℝ) : EReal) := by
  have h' := congrFun h (ix3 b n l)
  pointwise [Cert.Pre_finite_scores.fn] at h'
  exact real_of_abs_lt h'

theorem query_real (h : Cert.Pre_finite_scores.fn (F := Ideal) x0 x1 x2 x3 x4 = fun _ => 1#1) (b : Fin 2) (n : Fin 16384) (l : Fin 1024) :
    ∃ r : ℝ, x0 (ix3 b n l) = ((r : ℝ) : EReal) := by
  obtain ⟨r, hr⟩ := pre_at h b ⟨n.val, by omega⟩ l
  rw [dif_pos (by exact n.isLt)] at hr
  exact ⟨r, hr⟩

theorem ctx_real (h : Cert.Pre_finite_scores.fn (F := Ideal) x0 x1 x2 x3 x4 = fun _ => 1#1) (b : Fin 2) (n : Fin 256) (l : Fin 1024) :
    ∃ r : ℝ, x1 (ix3 b n l) = ((r : ℝ) : EReal) := by
  obtain ⟨r, hr⟩ := pre_at h b ⟨16384 + n.val, by omega⟩ l
  rw [dif_neg (by simp), dif_pos (by simp)] at hr
  simp only [Nat.add_sub_cancel_left] at hr
  exact ⟨r, hr⟩

theorem key_real (h : Cert.Pre_finite_scores.fn (F := Ideal) x0 x1 x2 x3 x4 = fun _ => 1#1) (b : Fin 2) (n : Fin 16384) (l : Fin 1024) :
    ∃ r : ℝ, x2 (ix3 b n l) = ((r : ℝ) : EReal) := by
  obtain ⟨r, hr⟩ := pre_at h b ⟨16384 + 256 + n.val, by omega⟩ l
  rw [dif_neg (by simp; omega), dif_neg (by simp; omega)] at hr
  have e : (⟨16384 + 256 + n.val - 16384 - 256, by omega⟩ : Fin 16384) = n := Fin.ext (by simp; omega)
  simp only [e] at hr
  exact ⟨r, hr⟩

end Finite

variable (m : (ℓ : Loc nD τ sig) → Buf (Elt Ideal) ℓ) (c : Dev nD)

/-- What the region finds: the queries as given, the keys and the values of the context before those of the sequence. -/
theorem Q_eq : Q m c = m ((c : Thread nD τ).loc main_arg0) := rfl
theorem K_eq : K m c = concatenate S2x16640x1024 1 [⟨S2x256x1024, m ((c : Thread nD τ).loc main_arg1)⟩, ⟨S2x16384x1024, m ((c : Thread nD τ).loc main_arg2)⟩]
    Gen.concatenates_S2x256x1024_S2x16384x1024_S2x16640x1024_d1 := by
  unfold K
  entry_read
  rfl
theorem W_eq : W m c = concatenate S2x16640x512 1 [⟨S2x256x512, m ((c : Thread nD τ).loc main_arg3)⟩, ⟨S2x16384x512, m ((c : Thread nD τ).loc main_arg4)⟩]
    Gen.concatenates_S2x256x512_S2x16384x512_S2x16640x512_d1 := by
  unfold W
  entry_read
  rfl

/-- A sum of products of reals is real. -/
theorem sum_real {n : ℕ} (f g : Fin n → EReal) (hf : ∀ i, ∃ r : ℝ, f i = r) (hg : ∀ i, ∃ r : ℝ, g i = r) : ∃ r : ℝ, (∑ i, f i * g i) = r := by
  choose a ha using hf
  choose b hb using hg
  refine ⟨∑ i, a i * b i, ?_⟩
  simp only [ha, hb, ← EReal.coe_mul]
  exact (map_sum (⟨⟨((↑) : ℝ → EReal), rfl⟩, EReal.coe_add⟩ : ℝ →+ EReal) _ _).symm

/-- Under the precondition the scores are finite. -/
theorem scores_real [Cert.Pre_finite_scores.Facts]
    (h : Cert.Pre_finite_scores.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1)
    (b : Fin 2) (a : Fin 8) (row : Fin 16384) : Fin' (srow m c b a row) := by
  intro k
  unfold srow
  split
  · refine sum_real _ _ (fun d => query_real h b row _) fun d => ?_
    rw [K_eq]
    pointwise
    split
    · exact ctx_real h b _ _
    · exact key_real h b _ _
  · exact ⟨0, rfl⟩

/-- The kernel's result array is the reference's composed term of the same arguments. -/
theorem result [hF : Cert.ReferenceIdeal.Facts] (hs : ∀ b a row, Fin' (srow m c b a row)) :
    (dats m 0 c).arrAt 3 cfg0.N
      = Cert.ReferenceIdeal.Attention.mixed (W m c) (Cert.ReferenceIdeal.Attention.normed
          (Cert.ReferenceIdeal.Attention.exps (Cert.ReferenceIdeal.Attention.scores (Q m c) (K m c))
            (Cert.ReferenceIdeal.Attention.rowMax (Cert.ReferenceIdeal.Attention.scores (Q m c) (K m c))))) := by
  rw [final m c hs]
  funext i
  obtain ⟨b, row, l, rfl⟩ : ∃ b row l, i = (ix3 b row l : S2x16384x512.Idx) := ⟨i 0, i 1, i 2, by funext a; fin_cases a <;> rfl⟩
  refine (Cert.ReferenceIdeal.Attention.ref_at _ _ b row l (srow m c b ⟨l.val / 64, by omega⟩ row) (vrow m c b l) (hs _ _ _) (fun j => ?_) fun j => ?_).symm
  · rw [Cert.ReferenceIdeal.Attention.scores_at, srow, dif_pos j.isLt]
    simp only [Nat.mul_comm (l.val / 64) 128]
  · rw [vrow, dif_pos j.isLt]

end Cert.KernelIdeal.Flash
-- ==== Proof.Rows.lean ====
/-
  Row functions that the dense feed-forward and the experts share, on extended reals: a row's modulated entry, a hidden unit
  of a gated linear layer, the layer norm of a row, and sums taken block by block.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Rows

/-- An entry scaled by one plus a scale, and shifted. -/
def modul (x scale shift : EReal) : EReal := x * (1 + scale) + shift

/-- A hidden unit: the swish of the row's product with one column times its product with another. -/
def unit (h a b : Fin 1024 → EReal) : EReal := ((∑ d, h d * a d) * Ideal.logistic (∑ d, h d * a d)) * ∑ d, h d * b d

/-- The mean of a row of 1024 numbers. -/
def mean (y : Fin 1024 → EReal) : EReal := Ideal.div (∑ j, y j) (Ideal.ofBits .f32 1149239296#32)

/-- The layer norm of a row, at one entry, with that entry's weight and bias. -/
def lnorm (y : Fin 1024 → EReal) (g b : EReal) (l : Fin 1024) : EReal :=
  (y l - mean y) * Ideal.rsqrt (mean (fun j => (y j - mean y) * (y j - mean y)) + Ideal.ofBits .f32 925353388#32) * g + b

/-- The residual sum that is normalised: the stream scaled by a constant, and the gated update. -/
def resid (x gate acc : Fin 1024 → EReal) : Fin 1024 → EReal := fun j => Ideal.ofBits .f32 1068827891#32 * x j + gate j * acc j

/-- The sum of the first `n` terms and the next block of `k` is the sum of the first `n + k`. -/
theorem sum_block (T : ℕ → EReal) (n k : ℕ) : (∑ i ∈ Finset.range n, T i) + ∑ i : Fin k, T (n + i.val) = ∑ i ∈ Finset.range (n + k), T i := by
  rw [Finset.sum_range_add, ← Fin.sum_univ_eq_sum_range (fun i => T (n + i)) k]

/-- A sum of `a * k` terms is the sum over its `a` stretches of `k`. -/
theorem sum_stretches (T : ℕ → EReal) (a k : ℕ) : (∑ i ∈ Finset.range (a * k), T i) = ∑ e : Fin a, ∑ f : Fin k, T (e.val * k + f.val) := by
  rw [← Fin.sum_univ_eq_sum_range]
  exact (Fin.sum_mul_add_fin a k (fun i : Fin (a * k) => T i.val) rfl).symm

end Cert.Rows
-- ==== Proof.MoePayload.lean ====
/-
  What the experts' body computes from its blocks: the modulated rows, an expert's contribution to the running sum, weighted
  by its gate, and the normalised result, each read at an index of the payload that stores it.
-/
module

public import proofs.«01_k».proof.Proof.Gen.Kernel2Ideal.Skeleton
public import proofs.«01_k».proof.Proof.Rows

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen Cert.Rows

variable (i : grid0.Coords) (x : Vec Ideal S1x1024x1024 .f32) (ga sh sc : Vec Ideal S1x1x1024 .f32) (h : Vec Ideal S1024x1024 .bf16)
variable (g : Vec Ideal S1x1024x128 .f32) (w1 w3 : Vec Ideal S1x1024x512 .bf16) (w2 : Vec Ideal S1x512x1024 .bf16)
variable (acc part : Vec Ideal S1024x1024 .f32) (lg lb : Vec Ideal S1x1024 .f32) (r l : Fin 1024)

theorem pay3_at : k0_pay3 (F := Ideal) x sc sh (ix2 r l) = modul (x (ix3 0 r l)) (sc (ix3 0 0 l)) (sh (ix3 0 0 l)) := by
  pointwise [k0_pay3, modul]

theorem pay4_at : k0_pay4 (F := Ideal) (ix2 r l) = 0 := by
  pointwise [k0_pay4]

theorem pay1_at : k0_pay1 (F := Ideal) acc part (ix2 r l) = acc (ix2 r l) + part (ix2 r l) := by
  pointwise [k0_pay1]

/-- The expert of a grid point. -/
abbrev eOf : Fin 128 := ⟨(i 2).val, by have : (i 2).val < 8 := (i 2).isLt; omega⟩

/-- Of the 128 lanes of gates, the sum over those whose number is the expert's takes that one lane. -/
theorem gate_sum (G : Fin 128 → EReal) :
    (∑ lane : Fin 128, Scalar.select (IntOp.cmpi .eq (BitVec.ofNat 32 lane.val) (BitVec.ofNat 32 (i 2).val)) (G lane) 0) = G (eOf i) := by
  have hi : (i 2).val < 8 := (i 2).isLt
  rw [Finset.sum_eq_single (eOf i)]
  · simp [Scalar.select, IntOp.cmpi, eOf]
  · intro b _ hb
    have hne : ¬(BitVec.ofNat 32 b.val = BitVec.ofNat 32 (i 2).val) := by
      intro he
      have hv := congrArg BitVec.toNat he
      simp only [BitVec.toNat_ofNat] at hv
      apply hb
      apply Fin.ext
      show b.val = (i 2).val
      omega
    have hb0 : (BitVec.ofNat 32 b.val == BitVec.ofNat 32 (i 2).val) = false := by simpa using hne
    simp [Scalar.select, IntOp.cmpi, hb0]
  · intro hn
    exact absurd (Finset.mem_univ _) hn

theorem pay5_at : k0_pay5 (F := Ideal) i g h w1 w3 w2 (ix2 r l)
    = ∑ f : Fin 512, unit (fun d => h (ix2 r d)) (fun d => w1 (ix3 0 d f)) (fun d => w3 (ix3 0 d f)) * g (ix3 0 r (eOf i)) * w2 (ix3 0 f l) := by
  pointwise [k0_pay5]
  rw [gate_sum i (fun lane => g (ix3 0 r lane))]
  rfl

theorem pay2_at : k0_pay2 (F := Ideal) x ga acc lg lb (ix3 0 r l)
    = lnorm (resid (fun j => x (ix3 0 r j)) (fun j => ga (ix3 0 0 j)) (fun j => acc (ix2 r j))) (lg (ix2 0 l)) (lb (ix2 0 l)) l := by
  pointwise [k0_pay2]
  rfl

end Cert.Kernel2Ideal.Moe
-- ==== Proof.MoeState.lean ====
/-
  What one grid point of the experts' kernel leaves in its two carried scratch buffers (the modulated rows and the running
  sum) over what the point before left, and what the last point of a row of points writes to the output's block.
-/
module

public import proofs.«01_k».proof.Proof.Gen.Kernel2Ideal.Frame
public import proofs.«01_k».proof.Proof.MoePayload
public import Idealize.ShloMosaic.Lib.Pipeline.ReadBack

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen Cert.Rows

variable (m : (ℓ : Loc nD τ sig) → Buf (Elt Ideal) ℓ)

/-- The modulated rows that point `n` leaves. -/
abbrev Hx (c : Dev nD) (n : ℕ) (hn : n < cfg0.N) (r : Fin 1024) : Fin 1024 → EReal := fun d => (outsAt0 m c n hn).2.1 (ix2 r d)

/-- The running sum that point `n` leaves. -/
abbrev Ax (c : Dev nD) (n : ℕ) (hn : n < cfg0.N) (r l : Fin 1024) : EReal := (outsAt0 m c n hn).2.2 (ix2 r l)

variable (c : Dev nD) (t : Fin cfg0.N) (r l : Fin 1024)

/-- The blocks of a point. -/
abbrev xB : Vec Ideal S1x1024x1024 .f32 := iblk m c 0 t
abbrev shB : Vec Ideal S1x1x1024 .f32 := iblk m c 1 t
abbrev scB : Vec Ideal S1x1x1024 .f32 := iblk m c 2 t
abbrev gaB : Vec Ideal S1x1x1024 .f32 := iblk m c 3 t
abbrev gtB : Vec Ideal S1x1024x128 .f32 := iblk m c 4 t
abbrev aB : Vec Ideal S1x1024x512 .bf16 := iblk m c 5 t
abbrev bB : Vec Ideal S1x1024x512 .bf16 := iblk m c 6 t
abbrev oB : Vec Ideal S1x512x1024 .bf16 := iblk m c 7 t
abbrev lgB : Vec Ideal S1x1024 .f32 := iblk m c 8 t
abbrev lbB : Vec Ideal S1x1024 .f32 := iblk m c 9 t

/-- A point's contribution to the running sum, for modulated rows `h`, weighted by the row's gate of the point's expert. -/
def part (h : Fin 1024 → EReal) (r l : Fin 1024) : EReal :=
  ∑ f : Fin 512, unit h (fun d => aB m c t (ix3 0 d f)) (fun d => bB m c t (ix3 0 d f)) * gtB m c t (ix3 0 r (eOf (grid0.coords t))) * oB m c t (ix3 0 f l)

/-- The point before. -/
theorem pred_lt {n N : ℕ} (h : n < N) : n - 1 < N := Nat.lt_of_le_of_lt (Nat.sub_le _ _) h

/-- The first point of a row of points stores the modulated rows. -/
theorem Hx_first (h0 : t.val % 56 = 0) : Hx m c t.val t.isLt r = fun d => modul (xB m c t (ix3 0 r d)) (scB m c t (ix3 0 0 d)) (shB m c t (ix3 0 0 d)) := by
  have h1 : ¬t.val % 56 = 55 := by omega
  funext d
  unfold Hx
  rw [outsAt0_A m c t h0 h1]
  frame_open
  simp (disch := decide) only [↓ View.readCov_skip, ↓ View.readCov_cons_toLoadRect, ↓ View.readCov_fill]
  frame_out
  rw [pay3_at]

/-- The first point of a row of points starts the running sum at its own contribution. -/
theorem Ax_first (h0 : t.val % 56 = 0) : Ax m c t.val t.isLt r l = 0 + part m c t (Hx m c t.val t.isLt r) r l := by
  have h1 : ¬t.val % 56 = 55 := by omega
  rw [Hx_first m c t r h0]
  unfold Ax
  rw [outsAt0_A m c t h0 h1]
  frame_open
  simp (disch := decide) only [↓ View.readCov_skip, ↓ View.readCov_cons_toLoadRect, ↓ View.readCov_fill]
  frame_out
  rw [pay1_at, pay5_at]
  simp only [pay3_at, pay4_at]
  rfl

/-- A later point keeps the modulated rows. -/
theorem Hx_next (h0 : ¬t.val % 56 = 0) : Hx m c t.val t.isLt r = Hx m c (t.val - 1) (pred_lt t.isLt) r := by
  funext d
  unfold Hx
  by_cases h1 : t.val % 56 = 55
  · rw [outsAt0_C m c t h0 h1]
    rfl
  · rw [outsAt0_B m c t h0 h1]
    rfl

/-- A later point adds its contribution. -/
theorem Ax_next (h0 : ¬t.val % 56 = 0) :
    Ax m c t.val t.isLt r l = Ax m c (t.val - 1) (pred_lt t.isLt) r l + part m c t (Hx m c (t.val - 1) (pred_lt t.isLt) r) r l := by
  unfold Ax
  by_cases h1 : t.val % 56 = 55
  · rw [outsAt0_C m c t h0 h1]
    frame_open
    simp (disch := decide) only [↓ View.readCov_skip, ↓ View.readCov_cons_toLoadRect, ↓ View.readCov_fill]
    frame_out
    simp only [read_unread_whole]
    rw [pay1_at, pay5_at]
    rfl
  · rw [outsAt0_B m c t h0 h1]
    frame_open
    simp (disch := decide) only [↓ View.readCov_skip, ↓ View.readCov_cons_toLoadRect, ↓ View.readCov_fill]
    frame_out
    simp only [read_unread_whole]
    rw [pay1_at, pay5_at]
    rfl

/-- The last point of a row of points writes the normalised residual sum. -/
theorem out_last (h1 : t.val % 56 = 55) :
    (outsAt0 m c t.val t.isLt).1 (ix3 0 r l)
      = lnorm (resid (fun j => xB m c t (ix3 0 r j)) (fun j => gaB m c t (ix3 0 0 j)) (fun j => Ax m c t.val t.isLt r j))
          (lgB m c t (ix2 0 l)) (lbB m c t (ix2 0 l)) l := by
  have h0 : ¬t.val % 56 = 0 := by omega
  simp only [Ax_next m c t r _ h0]
  rw [outsAt0_C m c t h0 h1]
  frame_open
  simp (disch := decide) only [↓ View.readCov_skip, ↓ View.readCov_cons_toLoadRect, ↓ View.readCov_fill]
  frame_out
  simp only [read_unread_whole]
  rw [pay2_at]
  simp only [pay1_at, pay5_at]
  rfl

end Cert.Kernel2Ideal.Moe
-- ==== Proof.MoeValue.lean ====
/-
  The experts' kernel's blocks as stretches of the arrays the region finds, and by induction on the point what the scratch buffers hold: the
  modulated rows, and the sum of the contributions of the hidden units taken so far.
-/
module

public import proofs.«01_k».proof.Proof.MoeState

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen Cert.Rows

variable (m : (ℓ : Loc nD τ sig) → Buf (Elt Ideal) ℓ) (c : Dev nD)

/-- The arrays as the region finds them. -/
abbrev X : Vec Ideal S2x16384x1024 .f32 := V m c main_arg0
abbrev SH : Vec Ideal S2x1x1024 .f32 := V m c main_arg1
abbrev SC : Vec Ideal S2x1x1024 .f32 := V m c main_arg2
abbrev GA : Vec Ideal S2x1x1024 .f32 := V m c main_arg3
abbrev GT : Vec Ideal S2x16384x128 .f32 := V m c main_arg4
abbrev A : Vec Ideal S8x1024x3584 .bf16 := V m c main_v0
abbrev B : Vec Ideal S8x1024x3584 .bf16 := V m c main_v1
abbrev O : Vec Ideal S8x3584x1024 .bf16 := V m c main_v2
abbrev LG : Vec Ideal S1x1024 .f32 := V m c main_v3
abbrev LB : Vec Ideal S1x1024 .f32 := V m c main_v4

/-- A modulated row. -/
def hrow (b : Fin 2) (row : Fin 16384) : Fin 1024 → EReal :=
  fun d => modul (X m c (ix3 b row d)) (SC m c (ix3 b 0 d)) (SH m c (ix3 b 0 d))

/-- A row's gates of the eight experts. -/
def grow (b : Fin 2) (row : Fin 16384) : Fin 8 → EReal := fun e => GT m c (ix3 b row ⟨e.val, by omega⟩)

/-- The contribution of hidden unit `f` of expert `e` to lane `l` of a row with modulated entries `h` and gates `g`. -/
def contrib (h : Fin 1024 → EReal) (g : Fin 8 → EReal) (l : Fin 1024) (e : Fin 8) (f : Fin 3584) : EReal :=
  unit h (fun d => A m c (ix3 e d f)) (fun d => B m c (ix3 e d f)) * g e * O m c (ix3 e f l)

/-- The same, the hidden units of all experts numbered one expert after the other. -/
def term (h : Fin 1024 → EReal) (g : Fin 8 → EReal) (l : Fin 1024) (k : ℕ) : EReal :=
  if hk : k < 28672 then contrib m c h g l ⟨k / 3584, by omega⟩ ⟨k % 3584, by omega⟩ else 0

/-- The index maps: batch, block of rows and block of hidden units of a point. -/
theorem idx : ∀ t : Fin cfg0.N, win0_0.index t = ![t.val / 896, t.val / 56 % 16, 0] ∧ win0_1.index t = ![t.val / 896, 0, 0]
    ∧ win0_2.index t = ![t.val / 896, 0, 0] ∧ win0_3.index t = ![t.val / 896, 0, 0] ∧ win0_4.index t = ![t.val / 896, t.val / 56 % 16, 0]
    ∧ win0_5.index t = ![t.val / 7 % 8, 0, t.val % 7] ∧ win0_6.index t = ![t.val / 7 % 8, 0, t.val % 7] ∧ win0_7.index t = ![t.val / 7 % 8, t.val % 7, 0]
    ∧ (win0_8.index t = ![0, 0] ∧ win0_9.index t = ![0, 0] ∧ (grid0.coords t 2).val = t.val / 7 % 8)
    ∧ win0_10.index t = ![t.val / 896, t.val / 56 % 16, 0] ∧ t.val < 1792 :=
  (by decide +kernel : ∀ t : Fin grid0.N, _)

theorem lt_pts {n : ℕ} (hn : n < cfg0.N) : n < 1792 := by have : cfg0.N = 1792 := N_0; omega

/-- The batch of a point and the array row of its block's row `r`. -/
abbrev bOf (n : ℕ) (hn : n < cfg0.N) : Fin 2 := ⟨n / 896, by have := lt_pts hn; omega⟩
abbrev qOf (n : ℕ) (hn : n < cfg0.N) (r : Fin 1024) : Fin 16384 := ⟨1024 * (n / 56 % 16) + r.val, by omega⟩

variable (t : Fin cfg0.N) (r l d : Fin 1024)

theorem xB_at : xB m c t (ix3 0 r d) = X m c (ix3 (bOf t.val t.isLt) (qOf t.val t.isLt r) d) := by
  have hi := idx t
  blk_point [iblk, idx t]
theorem shB_at : shB m c t (ix3 0 0 d) = SH m c (ix3 (bOf t.val t.isLt) 0 d) := by
  have hi := idx t
  blk_point [iblk, idx t]
theorem scB_at : scB m c t (ix3 0 0 d) = SC m c (ix3 (bOf t.val t.isLt) 0 d) := by
  have hi := idx t
  blk_point [iblk, idx t]
theorem gaB_at : gaB m c t (ix3 0 0 d) = GA m c (ix3 (bOf t.val t.isLt) 0 d) := by
  have hi := idx t
  blk_point [iblk, idx t]
theorem lgB_at : lgB m c t (ix2 0 d) = LG m c (ix2 0 d) := by
  have hi := idx t
  blk_point [iblk, idx t]
theorem lbB_at : lbB m c t (ix2 0 d) = LB m c (ix2 0 d) := by
  have hi := idx t
  blk_point [iblk, idx t]

variable (f : Fin 512)

/-- The expert of a point, and the hidden unit that lane `f` of its block is. -/
abbrev xOf : Fin 8 := ⟨t.val / 7 % 8, by omega⟩
abbrev fOf : Fin 3584 := ⟨512 * (t.val % 7) + f.val, by omega⟩

theorem aB_at : aB m c t (ix3 0 d f) = A m c (ix3 (xOf t) d (fOf t f)) := by
  have hi := idx t
  blk_point [iblk, idx t]
theorem bB_at : bB m c t (ix3 0 d f) = B m c (ix3 (xOf t) d (fOf t f)) := by
  have hi := idx t
  blk_point [iblk, idx t]
theorem oB_at : oB m c t (ix3 0 f l) = O m c (ix3 (xOf t) (fOf t f) l) := by
  have hi := idx t
  blk_point [iblk, idx t]
theorem gtB_at : gtB m c t (ix3 0 r (eOf (grid0.coords t))) = grow m c (bOf t.val t.isLt) (qOf t.val t.isLt r) (xOf t) := by
  have hi := idx t
  have he : eOf (grid0.coords t) = ⟨t.val / 7 % 8, by omega⟩ := Fin.ext hi.2.2.2.2.2.2.2.2.1.2.2
  rw [he, grow]
  blk_point [iblk, idx t]

/-- A point's contribution is that of a stretch of hidden units. -/
theorem part_eq (h : Fin 1024 → EReal) :
    part m c t h r l = ∑ f : Fin 512, term m c h (grow m c (bOf t.val t.isLt) (qOf t.val t.isLt r)) l (512 * (t.val % 56) + f.val) := by
  refine Finset.sum_congr rfl fun f _ => ?_
  have he : (⟨(512 * (t.val % 56) + f.val) / 3584, by omega⟩ : Fin 8) = xOf t := Fin.ext (by show (512 * (t.val % 56) + f.val) / 3584 = t.val / 7 % 8; omega)
  have hf : (⟨(512 * (t.val % 56) + f.val) % 3584, by omega⟩ : Fin 3584) = fOf t f :=
    Fin.ext (by show (512 * (t.val % 56) + f.val) % 3584 = 512 * (t.val % 7) + f.val; omega)
  rw [term, dif_pos (by omega), he, hf]
  simp only [aB_at, bB_at, oB_at, gtB_at]
  rfl

/-- What the two scratch buffers hold after point `n`. -/
theorem fold : ∀ (n : ℕ) (hn : n < cfg0.N) (r : Fin 1024), Hx m c n hn r = hrow m c (bOf n hn) (qOf n hn r)
    ∧ ∀ l, Ax m c n hn r l = ∑ k ∈ Finset.range (512 * (n % 56) + 512), term m c (hrow m c (bOf n hn) (qOf n hn r)) (grow m c (bOf n hn) (qOf n hn r)) l k := by
  have first : ∀ (t : Fin cfg0.N), t.val % 56 = 0 → ∀ r, Hx m c t.val t.isLt r = hrow m c (bOf t.val t.isLt) (qOf t.val t.isLt r)
      ∧ ∀ l, Ax m c t.val t.isLt r l = ∑ k ∈ Finset.range (512 * (t.val % 56) + 512), term m c (hrow m c (bOf t.val t.isLt) (qOf t.val t.isLt r)) (grow m c (bOf t.val t.isLt) (qOf t.val t.isLt r)) l k := by
    intro t h0 r
    have hH : Hx m c t.val t.isLt r = hrow m c (bOf t.val t.isLt) (qOf t.val t.isLt r) := by
      rw [Hx_first m c t r h0]
      simp only [xB_at, scB_at, shB_at]
      rfl
    refine ⟨hH, fun l => ?_⟩
    rw [Ax_first m c t r l h0, hH, part_eq, ← sum_block, h0]
    simp only [Nat.mul_zero, Finset.range_zero, Finset.sum_empty]
  intro n
  induction n with
  | zero => exact fun hn r => first ⟨0, hn⟩ rfl r
  | succ n ih =>
    intro hn r
    by_cases h0 : (n + 1) % 56 = 0
    · exact first ⟨n + 1, hn⟩ h0 r
    · obtain ⟨iH, iA⟩ := ih (Nat.lt_of_succ_lt hn) r
      have hb : bOf n (Nat.lt_of_succ_lt hn) = bOf (n + 1) hn := Fin.ext (by show n / 896 = (n + 1) / 896; omega)
      have hq : qOf n (Nat.lt_of_succ_lt hn) r = qOf (n + 1) hn r :=
        Fin.ext (by show 1024 * (n / 56 % 16) + r.val = 1024 * ((n + 1) / 56 % 16) + r.val; omega)
      have hj : 512 * (n % 56) + 512 = 512 * ((n + 1) % 56) := by omega
      rw [hb, hq] at iH
      simp only [hb, hq, hj] at iA
      refine ⟨(Hx_next m c ⟨n + 1, hn⟩ r h0).trans iH, fun l => ?_⟩
      rw [Ax_next m c ⟨n + 1, hn⟩ r l h0]
      show Ax m c n _ r l + part m c ⟨n + 1, hn⟩ (Hx m c n _ r) r l = _
      rw [iA l, iH, part_eq, ← sum_block]

end Cert.Kernel2Ideal.Moe
-- ==== Proof.MoeResult.lean ====
/-
  The experts' kernel's result array: at every row, the layer norm of the scaled stream plus the gated sum of all 28672 contributions.
-/
module

public import proofs.«01_k».proof.Proof.MoeValue
public import Idealize.ShloMosaic.Lib.Pipeline.Covers

@[expose] public section

set_option maxRecDepth 16384

noncomputable section

open Idealize.ShloMosaic Idealize.ShloMosaic.TcCoe Idealize.SL.Sem

open Idealize.ShloMosaic.Pipeline (Dat)

namespace Cert.Kernel2Ideal.Moe

open Cert.Kernel2Ideal Cert.Kernel2Ideal.Gen Cert.Rows

variable (m : (ℓ : Loc nD τ sig) → Buf (Elt Ideal) ℓ) (c : Dev nD)

/-- The sum of all contributions to a row. -/
def total (b : Fin 2) (row : Fin 16384) (l : Fin 1024) : EReal :=
  ∑ k ∈ Finset.range 28672, term m c (hrow m c b row) (grow m c b row) l k

/-- The result, at a batch, a row and a lane. -/
def G (b : Fin 2) (row : Fin 16384) (l : Fin 1024) : EReal :=
  lnorm (resid (fun j => X m c (ix3 b row j)) (fun j => GA m c (ix3 b 0 j)) (total m c b row)) (LG m c (ix2 0 l)) (LB m c (ix2 0 l)) l

/-- The written-back blocks cover the result array. -/
theorem covers : (cfg0.win 10).Covers := by decide +kernel

/-- The result array after the run. -/
theorem final : (dats m 0 c).arrAt 10 cfg0.N = fun i : S2x16384x1024.Idx => G m c (i 0) (i 1) (i 2) := by
  refine (dats m 0 c).arrAt_eq_of_covers 10 _ covers fun t hf y => ?_
  have hl := (flush0_10 t).mp hf
  have hi := idx t
  blk_simp
  rw [after0_10]
  obtain ⟨u, r, l, rfl⟩ : ∃ u r l, y = (ix3 u r l : S1x1024x1024.Idx) := ⟨y 0, y 1, y 2, by funext a; fin_cases a <;> rfl⟩
  obtain rfl : u = 0 := Fin.fin_one_eq_zero u
  have hv := hi.2.2.2.2.2.2.2.2.2.1
  have v0 : ((win0_10.blk t).view.emb (ix3 0 r l) 0).val = t.val / 896 := by blk_simp [hv]; omega
  have e0 : (win0_10.blk t).view.emb (ix3 0 r l) 0 = bOf t.val t.isLt := Fin.ext v0
  have v1 : ((win0_10.blk t).view.emb (ix3 0 r l) 1).val = 1024 * (t.val / 56 % 16) + r.val := by blk_simp [hv]; omega
  have e1 : (win0_10.blk t).view.emb (ix3 0 r l) 1 = qOf t.val t.isLt r := Fin.ext v1
  have v2 : ((win0_10.blk t).view.emb (ix3 0 r l) 2).val = l.val := by blk_simp [hv]
  have e2 : (win0_10.blk t).view.emb (ix3 0 r l) 2 = l := Fin.ext v2
  refine Eq.trans ?_ (congr (congr (congrArg (G m c) e0.symm) e1.symm) e2.symm)
  rw [out_last m c t r l hl]
  have hA : (fun j => Ax m c t.val t.isLt r j) = total m c (bOf t.val t.isLt) (qOf t.val t.isLt r) := by
    funext j
    rw [(fold m c t.val t.isLt r).2 j, hl]
    rfl
  rw [hA]
  simp only [xB_at, gaB_at, lgB_at, lbB_at]
  rfl

end Cert.Kernel2Ideal.Moe
-- ==== Proof.MoeReference.lean ====
/-
  The experts' reference, part by part, each read at an index: the modulated rows, every expert's hidden units, their product with
  the output weights, the gated sum over the experts, the residual sum and the layer norm.
-/
module

public import proofs.«01_k».proof.Proof.Gen.Reference2Ideal
public import proofs.«01_k».proof.Proof.Rows

@[expose] public section

set_option maxRecDepth 16384

noncomputable section

open Idealize.ShloMosaic Idealize.ShloMosaic.TcCoe Idealize.SL.Sem

namespace Cert.Reference2Ideal.Moe

open Cert.Reference2Ideal Cert.Reference2Ideal.Gen Cert.Rows
open Cert.Reference2Ideal.Facts

/-- The rows scaled and shifted. -/
def modulated (x : FVec Ideal S2x16384x1024 .f32) (sh sc : FVec Ideal S2x1x1024 .f32) : FVec Ideal S2x16384x1024 .f32 :=
  addf (mulf x (broadcastInDim S2x16384x1024 ![0, 1, 2] bcast_S2x1x1024_S2x16384x1024_0_1_2
    (addf (broadcastInDim S2x1x1024 ![] bcast_S_S2x1x1024 (constant S_ .f32 0x3F800000#32)) sc)))
    (broadcastInDim S2x16384x1024 ![0, 1, 2] bcast_S2x1x1024_S2x16384x1024_0_1_2 sh)

/-- The swish of `p` times `q`, for every expert. -/
def hidden (p q : FVec Ideal S2x16384x8x3584 .f32) : FVec Ideal S2x16384x8x3584 .f32 :=
  mulf (mulf p (Host.divf (broadcastInDim S2x16384x8x3584 ![] bcast_S_S2x16384x8x3584 (constant S_ .f32 0x3F800000#32))
    (addf (broadcastInDim S2x16384x8x3584 ![] bcast_S_S2x16384x8x3584 (constant S_ .f32 0x3F800000#32)) (Host.exp (Host.negf p))))) q

/-- The rows against every expert's matrix of weights. -/
def projected (h : FVec Ideal S2x16384x1024 .f32) (w : FVec Ideal S8x1024x3584 .f32) : FVec Ideal S2x16384x8x3584 .f32 :=
  Host.dotGeneral dot_S2x16384x1024_S8x1024x3584_S2x16384x8x3584_2_1_01_02_n_n none h w

/-- Every expert's hidden units against its output weights. -/
def output (t : FVec Ideal S2x16384x8x3584 .f32) (w : FVec Ideal S8x3584x1024 .f32) : FVec Ideal S2x16384x8x1024 .f32 :=
  transpose S2x16384x8x1024 [2, 3, 0, 1] (Host.dotGeneral dot_S8x3584x1024_S2x16384x8x3584_S8x1024x2x16384_1_3_2_01_0_2 none w t)
    transposes_S8x1024x2x16384_S2x16384x8x1024_2_3_0_1

/-- The experts' outputs, each times its gate, summed. -/
def gated (g : FVec Ideal S2x16384x128 .f32) (y : FVec Ideal S2x16384x8x1024 .f32) : FVec Ideal S2x16384x1024 .f32 :=
  Host.reduceAdd (mulf (broadcastInDim S2x16384x8x1024 ![0, 1, 2, 3] bcast_S2x16384x8x1_S2x16384x8x1024_0_1_2_3
      (broadcastInDim S2x16384x8x1 ![0, 1, 2] bcast_S2x16384x8_S2x16384x8x1_0_1_2
        (extractStridedSlice S2x16384x8 ![0, 0, 0] g slices_S2x16384x128_S2x16384x8_0_0_0))) y)
    (constant S_ .f32 0x00000000#32) reducesTo_S2x16384x8x1024_S2x16384x1024_d2 h_S_

/-- The stream scaled by a constant, and the gated update `o`. -/
def joined (x : FVec Ideal S2x16384x1024 .f32) (ga : FVec Ideal S2x1x1024 .f32) (o : FVec Ideal S2x16384x1024 .f32) : FVec Ideal S2x16384x1024 .f32 :=
  addf (mulf (broadcastInDim S2x16384x1024 ![] bcast_S_S2x16384x1024 (constant S_ .f32 0x3FB504F3#32)) x)
    (mulf (broadcastInDim S2x16384x1024 ![0, 1, 2] bcast_S2x1x1024_S2x16384x1024_0_1_2 ga) o)

/-- The mean of every row, kept as a column. -/
def rowMean (y : FVec Ideal S2x16384x1024 .f32) : FVec Ideal S2x16384x1 .f32 :=
  Host.divf (broadcastInDim S2x16384x1 ![0, 1] bcast_S2x16384_S2x16384x1_0_1
    (Host.reduceAdd y (constant S_ .f32 0x00000000#32) reducesTo_S2x16384x1024_S2x16384_d2 h_S_))
    (broadcastInDim S2x16384x1 ![] bcast_S_S2x16384x1 (constant S_ .f32 0x44800000#32))

/-- Every row less a column. -/
def centred (y : FVec Ideal S2x16384x1024 .f32) (u : FVec Ideal S2x16384x1 .f32) : FVec Ideal S2x16384x1024 .f32 :=
  subf y (broadcastInDim S2x16384x1024 ![0, 1, 2] bcast_S2x16384x1_S2x16384x1024_0_1_2 u)

/-- The centred rows `d` over the root of the mean square `v` and a constant, with weights and biases. -/
def scaled (d : FVec Ideal S2x16384x1024 .f32) (v : FVec Ideal S2x16384x1 .f32) (g b : FVec Ideal S1024 .f32) : FVec Ideal S2x16384x1024 .f32 :=
  addf (mulf (mulf d (broadcastInDim S2x16384x1024 ![0, 1, 2] bcast_S2x16384x1_S2x16384x1024_0_1_2
      (Host.rsqrt (addf v (broadcastInDim S2x16384x1 ![] bcast_S_S2x16384x1 (constant S_ .f32 0x3727C5AC#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S1x1x1024_S2x16384x1024_0_1_2 (broadcastInDim S1x1x1024 ![2] bcast_S1024_S1x1x1024_2 b))

variable (x : FVec Ideal S2x16384x1024 .f32) (sh sc ga : FVec Ideal S2x1x1024 .f32) (b : Fin 2) (i : Fin 16384) (l : Fin 1024)

theorem modulated_at : modulated x sh sc (ix3 b i l) = modul (x (ix3 b i l)) (sc (ix3 b 0 l)) (sh (ix3 b 0 l)) := by
  pointwise [modulated, modul]

theorem projected_at (h : FVec Ideal S2x16384x1024 .f32) (w : FVec Ideal S8x1024x3584 .f32) (e : Fin 8) (f : Fin 3584) :
    projected h w (ix4 b i e f) = ∑ d : Fin 1024, h (ix3 b i d) * w (ix3 e d f) := by
  pointwise [projected]

theorem hidden_at (p q : FVec Ideal S2x16384x8x3584 .f32) (e : Fin 8) (f : Fin 3584) :
    hidden p q (ix4 b i e f) = p (ix4 b i e f) * Ideal.logistic (p (ix4 b i e f)) * q (ix4 b i e f) := by
  pointwise [hidden, Ideal.logistic]

theorem output_at (t : FVec Ideal S2x16384x8x3584 .f32) (w : FVec Ideal S8x3584x1024 .f32) (e : Fin 8) :
    output t w (ix4 b i e l) = ∑ f : Fin 3584, w (ix3 e f l) * t (ix4 b i e f) := by
  pointwise [output]

theorem gated_at (g : FVec Ideal S2x16384x128 .f32) (y : FVec Ideal S2x16384x8x1024 .f32) :
    gated g y (ix3 b i l) = ∑ e : Fin 8, g (ix3 b i ⟨e.val, by omega⟩) * y (ix4 b i e l) := by
  pointwise [gated]

theorem joined_at (o : FVec Ideal S2x16384x1024 .f32) :
    joined x ga o (ix3 b i l) = resid (fun j => x (ix3 b i j)) (fun j => ga (ix3 b 0 j)) (fun j => o (ix3 b i j)) l := by
  pointwise [joined, resid]

theorem rowMean_at (y : FVec Ideal S2x16384x1024 .f32) : rowMean y (ix3 b i 0) = mean (fun j => y (ix3 b i j)) := by
  pointwise [rowMean, mean]

theorem centred_at (y : FVec Ideal S2x16384x1024 .f32) (u : FVec Ideal S2x16384x1 .f32) :
    centred y u (ix3 b i l) = y (ix3 b i l) - u (ix3 b i 0) := by
  pointwise [centred]

theorem scaled_at (d : FVec Ideal S2x16384x1024 .f32) (v : FVec Ideal S2x16384x1 .f32) (g a : FVec Ideal S1024 .f32) :
    scaled d v g a (ix3 b i l) = d (ix3 b i l) * Ideal.rsqrt (v (ix3 b i 0) + Ideal.ofBits .f32 925353388#32) * g (ix1 l) + a (ix1 l) := by
  pointwise [scaled]

/-- The layer norm of every row. -/
def normed (y : FVec Ideal S2x16384x1024 .f32) (g a : FVec Ideal S1024 .f32) : FVec Ideal S2x16384x1024 .f32 :=
  scaled (centred y (rowMean y)) (rowMean (mulf (centred y (rowMean y)) (centred y (rowMean y)))) g a

theorem sq_at (d : FVec Ideal S2x16384x1024 .f32) : mulf d d (ix3 b i l) = d (ix3 b i l) * d (ix3 b i l) := by
  pointwise

theorem normed_at (y : FVec Ideal S2x16384x1024 .f32) (g a : FVec Ideal S1024 .f32) :
    normed y g a (ix3 b i l) = lnorm (fun j => y (ix3 b i j)) (g (ix1 l)) (a (ix1 l)) l := by
  rw [normed, scaled_at, rowMean_at]
  simp only [sq_at, centred_at, rowMean_at]
  rfl

variable (gt : FVec Ideal S2x16384x128 .f32) (w1 w3 : FVec Ideal S8x1024x3584 .f32) (w2 : FVec Ideal S8x3584x1024 .f32) (g a : FVec Ideal S1024 .f32)

/-- The update, before its gate. -/
def update : FVec Ideal S2x16384x1024 .f32 :=
  gated gt (output (hidden (projected (modulated x sh sc) w1) (projected (modulated x sh sc) w3)) w2)

/-- The whole reference. -/
def whole : FVec Ideal S2x16384x1024 .f32 := normed (joined x ga (update x sh sc gt w1 w3 w2)) g a

/-- A modulated row. -/
def hrow : Fin 1024 → EReal := fun d => modul (x (ix3 b i d)) (sc (ix3 b 0 d)) (sh (ix3 b 0 d))

theorem update_at : update x sh sc gt w1 w3 w2 (ix3 b i l)
    = ∑ e : Fin 8, gt (ix3 b i ⟨e.val, by omega⟩)
        * ∑ f : Fin 3584, w2 (ix3 e f l) * unit (hrow x sh sc b i) (fun d => w1 (ix3 e d f)) (fun d => w3 (ix3 e d f)) := by
  rw [update, gated_at]
  refine Finset.sum_congr rfl fun e _ => ?_
  rw [output_at]
  refine congrArg _ (Finset.sum_congr rfl fun f _ => ?_)
  rw [hidden_at, projected_at, projected_at]
  simp only [modulated_at]
  rfl

theorem whole_at : whole x sh sc ga gt w1 w3 w2 g a (ix3 b i l)
    = lnorm (resid (fun j => x (ix3 b i j)) (fun j => ga (ix3 b 0 j)) (fun j => update x sh sc gt w1 w3 w2 (ix3 b i j))) (g (ix1 l)) (a (ix1 l)) l := by
  rw [whole, normed_at]
  simp only [joined_at]

end Cert.Reference2Ideal.Moe
-- ==== Proof.MoeEquation.lean ====
/-
  The experts' kernel's result array is the reference's composed term of the same arguments, where every gate is a nonnegative
  real: the kernel weights each hidden unit by the gate, the reference the expert's whole output.
-/
module

public import proofs.«01_k».proof.Proof.MoeResult
public import proofs.«01_k».proof.Proof.MoeReference
public import proofs.«01_k».proof.Pre_gates_ok

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen Cert.Rows

/-- A nonnegative real factor goes into a sum of extended reals. -/
theorem mul_sum_of_nonneg {x : EReal} (h0 : 0 ≤ x) (ht : x ≠ ⊤) {n : ℕ} (f : Fin n → EReal) : x * ∑ i, f i = ∑ i, x * f i := by
  induction n with
  | zero => simp
  | succ n ih => rw [Fin.sum_univ_succ, Fin.sum_univ_succ, EReal.left_distrib_of_nonneg_of_ne_top h0 ht, ih]

/-- The precondition read at an index: the gate is at least zero and less than infinity. -/
theorem gate_real [Cert.Pre_gates_ok.Facts] {x0 : FVec Ideal S2x16384x1024 .f32} {x1 x2 x3 : FVec Ideal S2x1x1024 .f32} {x4 : FVec Ideal S2x16384x128 .f32}
    {x5 x6 : FVec Ideal S8x1024x3584 .f32} {x7 : FVec Ideal S8x3584x1024 .f32} {x8 x9 : FVec Ideal S1024 .f32}
    (h : Cert.Pre_gates_ok.fn (F := Ideal) x0 x1 x2 x3 x4 x5 x6 x7 x8 x9 = fun _ => 1#1) (b : Fin 2) (n : Fin 16384) (e : Fin 8) :
    0 ≤ x4 (ix3 b n ⟨e.val, by omega⟩) ∧ x4 (ix3 b n ⟨e.val, by omega⟩) ≠ (⊤ : EReal) := by
  have h' := congrFun h (ix3 b n e)
  pointwise [Cert.Pre_gates_ok.fn] at h'
  have hb : (Ideal.ofBits .f32 0x7F800000#32 : EReal) = ⊤ := by simp [Ideal.ofBits, Ideal.ieee]
  rw [hb] at h'
  by_cases h0 : (0 : EReal) ≤ x4 (ix3 b n ⟨e.val, by omega⟩)
  · by_cases h1 : x4 (ix3 b n ⟨e.val, by omega⟩) < (⊤ : EReal)
    · exact ⟨h0, ne_of_lt h1⟩
    · rw [decide_eq_true h0, decide_eq_false h1] at h'
      exact absurd h' (by decide)
  · rw [decide_eq_false h0] at h'
    by_cases h1 : x4 (ix3 b n ⟨e.val, by omega⟩) < (⊤ : EReal)
    · rw [decide_eq_true h1] at h'
      exact absurd h' (by decide)
    · rw [decide_eq_false h1] at h'
      exact absurd h' (by decide)

variable (m : (ℓ : Loc nD τ sig) → Buf (Elt Ideal) ℓ) (c : Dev nD)

/-- The arguments that the host prepares for the kernel: weights narrowed, weights and biases of the norm as rows. -/
abbrev w1 : Vec Ideal S8x1024x3584 .f32 := m ((c : Thread nD τ).loc main_arg5)
abbrev w3 : Vec Ideal S8x1024x3584 .f32 := m ((c : Thread nD τ).loc main_arg6)
abbrev w2 : Vec Ideal S8x3584x1024 .f32 := m ((c : Thread nD τ).loc main_arg7)
abbrev lg : Vec Ideal S1024 .f32 := m ((c : Thread nD τ).loc main_arg8)
abbrev lb : Vec Ideal S1024 .f32 := m ((c : Thread nD τ).loc main_arg9)

theorem A_eq : A m c = w1 m c := by
  unfold A
  entry_read
  rfl
theorem B_eq : B m c = w3 m c := by
  unfold B
  entry_read
  rfl
theorem O_eq : O m c = w2 m c := by
  unfold O
  entry_read
  rfl
theorem LG_at (l : Fin 1024) : LG m c (ix2 0 l) = lg m c (ix1 l) := by
  unfold LG
  entry_read
  pointwise
theorem LB_at (l : Fin 1024) : LB m c (ix2 0 l) = lb m c (ix1 l) := by
  unfold LB
  entry_read
  pointwise

/-- The sum of all contributions to a row is the reference's update. -/
theorem total_eq (hg : ∀ b row e, 0 ≤ grow m c b row e ∧ grow m c b row e ≠ ⊤) (b : Fin 2) (row : Fin 16384) (l : Fin 1024) :
    total m c b row l = Cert.Reference2Ideal.Moe.update (X m c) (SH m c) (SC m c) (GT m c) (w1 m c) (w3 m c) (w2 m c) (ix3 b row l) := by
  rw [Cert.Reference2Ideal.Moe.update_at, total, sum_stretches _ 8 3584]
  refine Finset.sum_congr rfl fun e _ => ?_
  refine Eq.trans ?_ (mul_sum_of_nonneg (hg b row e).1 (hg b row e).2 _).symm
  refine Finset.sum_congr rfl fun f _ => ?_
  have he : (⟨(e.val * 3584 + f.val) / 3584, by omega⟩ : Fin 8) = e := Fin.ext (by show (e.val * 3584 + f.val) / 3584 = e.val; omega)
  have hf : (⟨(e.val * 3584 + f.val) % 3584, by omega⟩ : Fin 3584) = f := Fin.ext (by show (e.val * 3584 + f.val) % 3584 = f.val; omega)
  rw [term, dif_pos (by omega), he, hf, contrib, A_eq, B_eq, O_eq, mul_comm (unit _ _ _), mul_assoc, mul_comm (unit _ _ _)]
  rfl

/-- The kernel's result array is the reference's composed term of the same arguments. -/
theorem result (hg : ∀ b row e, 0 ≤ grow m c b row e ∧ grow m c b row e ≠ ⊤) : (dats m 0 c).arrAt 10 cfg0.N
    = Cert.Reference2Ideal.Moe.whole (X m c) (SH m c) (SC m c) (GA m c) (GT m c) (w1 m c) (w3 m c) (w2 m c) (lg m c) (lb m c) := by
  rw [final]
  funext i
  obtain ⟨b, row, l, rfl⟩ : ∃ b row l, i = (ix3 b row l : S2x16384x1024.Idx) := ⟨i 0, i 1, i 2, by funext a; fin_cases a <;> rfl⟩
  refine Eq.trans ?_ (Cert.Reference2Ideal.Moe.whole_at ..).symm
  show G m c b row l = _
  rw [G, LG_at, LB_at]
  exact congrArg (fun T => lnorm (resid (fun j => X m c (ix3 b row j)) (fun j => GA m c (ix3 b 0 j)) T) (lg m c (ix1 l)) (lb m c (ix1 l)) l)
    (funext fun j => total_eq m c hg b row j)

end Cert.Kernel2Ideal.Moe
-- ==== Proof.DensePayload.lean ====
/-
  What the dense feed-forward body computes from its blocks: the modulated rows, the block's contribution to the running sum
  and the normalised result, each read at an index of the payload that stores it.
-/
module

public import proofs.«01_k».proof.Proof.Gen.Kernel3Ideal.Skeleton
public import proofs.«01_k».proof.Proof.Rows

@[expose] public section

set_option maxRecDepth 16384

noncomputable section

open Idealize.ShloMosaic Idealize.ShloMosaic.TcCoe Idealize.SL.Sem

namespace Cert.Kernel3Ideal.Dense

open Cert.Kernel3Ideal Cert.Kernel3Ideal.Gen Cert.Rows

variable (x : Vec Ideal S1x1024x1024 .f32) (ga sh sc : Vec Ideal S1x1x1024 .f32) (h : Vec Ideal S1024x1024 .bf16)
variable (w1 w3 : Vec Ideal S1024x256 .bf16) (w2 : Vec Ideal S256x1024 .bf16) (acc : Vec Ideal S1024x1024 .f32) (lg lb : Vec Ideal S1x1024 .f32)
variable (r l : Fin 1024)

theorem pay1_at : k0_pay1 (F := Ideal) x sc sh (ix2 r l) = modul (x (ix3 0 r l)) (sc (ix3 0 0 l)) (sh (ix3 0 0 l)) := by
  pointwise [k0_pay1, modul]

theorem pay2_at : k0_pay2 (F := Ideal) (ix2 r l) = 0 := by
  pointwise [k0_pay2]

theorem pay3_at : k0_pay3 (F := Ideal) h w1 w3 acc w2 (ix2 r l) = acc (ix2 r l)
    + ∑ f : Fin 256, unit (fun d => h (ix2 r d)) (fun d => w1 (ix2 d f)) (fun d => w3 (ix2 d f)) * w2 (ix2 f l) := by
  pointwise [k0_pay3, unit]

theorem pay4_at : k0_pay4 (F := Ideal) x ga acc lg lb (ix3 0 r l)
    = lnorm (resid (fun j => x (ix3 0 r j)) (fun j => ga (ix3 0 0 j)) (fun j => acc (ix2 r j))) (lg (ix2 0 l)) (lb (ix2 0 l)) l := by
  pointwise [k0_pay4]
  rfl

end Cert.Kernel3Ideal.Dense
-- ==== Proof.DenseState.lean ====
/-
  What one grid point of the dense feed-forward leaves in its two carried scratch buffers (the modulated rows and the running
  sum) over what the point before left, and what the last point of a row of points writes to the output's block.
-/
module

public import proofs.«01_k».proof.Proof.Gen.Kernel3Ideal.Frame
public import proofs.«01_k».proof.Proof.DensePayload
public import Idealize.ShloMosaic.Lib.Pipeline.ReadBack

@[expose] public section

set_option maxRecDepth 16384

noncomputable section

open Idealize.ShloMosaic Idealize.ShloMosaic.TcCoe Idealize.SL.Sem

namespace Cert.Kernel3Ideal.Dense

open Cert.Kernel3Ideal Cert.Kernel3Ideal.Gen Cert.Rows

variable (m : (ℓ : Loc nD τ sig) → Buf (Elt Ideal) ℓ)

/-- The modulated rows that point `n` leaves. -/
abbrev Hx (c : Dev nD) (n : ℕ) (hn : n < cfg0.N) (r : Fin 1024) : Fin 1024 → EReal := fun d => (outsAt0 m c n hn).2.1 (ix2 r d)

/-- The running sum that point `n` leaves. -/
abbrev Ax (c : Dev nD) (n : ℕ) (hn : n < cfg0.N) (r l : Fin 1024) : EReal := (outsAt0 m c n hn).2.2 (ix2 r l)

variable (c : Dev nD) (t : Fin cfg0.N) (r l : Fin 1024)

/-- The blocks of a point. -/
abbrev xB : Vec Ideal S1x1024x1024 .f32 := iblk m c 0 t
abbrev shB : Vec Ideal S1x1x1024 .f32 := iblk m c 1 t
abbrev scB : Vec Ideal S1x1x1024 .f32 := iblk m c 2 t
abbrev gaB : Vec Ideal S1x1x1024 .f32 := iblk m c 3 t
abbrev aB : Vec Ideal S1024x256 .bf16 := iblk m c 4 t
abbrev bB : Vec Ideal S1024x256 .bf16 := iblk m c 5 t
abbrev oB : Vec Ideal S256x1024 .bf16 := iblk m c 6 t
abbrev lgB : Vec Ideal S1x1024 .f32 := iblk m c 7 t
abbrev lbB : Vec Ideal S1x1024 .f32 := iblk m c 8 t

/-- A point's contribution to the running sum, for modulated rows `h`. -/
def part (h : Fin 1024 → EReal) (l : Fin 1024) : EReal :=
  ∑ f : Fin 256, unit h (fun d => aB m c t (ix2 d f)) (fun d => bB m c t (ix2 d f)) * oB m c t (ix2 f l)

/-- The point before. -/
theorem pred_lt {n N : ℕ} (h : n < N) : n - 1 < N := Nat.lt_of_le_of_lt (Nat.sub_le _ _) h

/-- The first point of a row of points stores the modulated rows. -/
theorem Hx_first (h0 : t.val % 11 = 0) : Hx m c t.val t.isLt r = fun d => modul (xB m c t (ix3 0 r d)) (scB m c t (ix3 0 0 d)) (shB m c t (ix3 0 0 d)) := by
  have h1 : ¬t.val % 11 = 10 := by omega
  funext d
  unfold Hx
  rw [outsAt0_A m c t h0 h1]
  frame_open
  simp (disch := decide) only [↓ View.readCov_skip, ↓ View.readCov_cons_toLoadRect, ↓ View.readCov_fill]
  frame_out
  rw [pay1_at]

/-- The first point of a row of points starts the running sum at its own contribution. -/
theorem Ax_first (h0 : t.val % 11 = 0) : Ax m c t.val t.isLt r l = 0 + part m c t (Hx m c t.val t.isLt r) l := by
  have h1 : ¬t.val % 11 = 10 := by omega
  rw [Hx_first m c t r h0]
  unfold Ax
  rw [outsAt0_A m c t h0 h1]
  frame_open
  simp (disch := decide) only [↓ View.readCov_skip, ↓ View.readCov_cons_toLoadRect, ↓ View.readCov_fill]
  frame_out
  rw [pay3_at]
  simp only [pay1_at, pay2_at]
  rfl

/-- A later point keeps the modulated rows. -/
theorem Hx_next (h0 : ¬t.val % 11 = 0) : Hx m c t.val t.isLt r = Hx m c (t.val - 1) (pred_lt t.isLt) r := by
  funext d
  unfold Hx
  by_cases h1 : t.val % 11 = 10
  · rw [outsAt0_C m c t h0 h1]
    rfl
  · rw [outsAt0_B m c t h0 h1]
    rfl

/-- A later point adds its contribution. -/
theorem Ax_next (h0 : ¬t.val % 11 = 0) :
    Ax m c t.val t.isLt r l = Ax m c (t.val - 1) (pred_lt t.isLt) r l + part m c t (Hx m c (t.val - 1) (pred_lt t.isLt) r) l := by
  unfold Ax
  by_cases h1 : t.val % 11 = 10
  · rw [outsAt0_C m c t h0 h1]
    frame_open
    simp (disch := decide) only [↓ View.readCov_skip, ↓ View.readCov_cons_toLoadRect, ↓ View.readCov_fill]
    frame_out
    simp only [read_unread_whole]
    rw [pay3_at]
    rfl
  · rw [outsAt0_B m c t h0 h1]
    frame_open
    simp (disch := decide) only [↓ View.readCov_skip, ↓ View.readCov_cons_toLoadRect, ↓ View.readCov_fill]
    frame_out
    simp only [read_unread_whole]
    rw [pay3_at]
    rfl

/-- The last point of a row of points writes the normalised residual sum. -/
theorem out_last (h1 : t.val % 11 = 10) :
    (outsAt0 m c t.val t.isLt).1 (ix3 0 r l)
      = lnorm (resid (fun j => xB m c t (ix3 0 r j)) (fun j => gaB m c t (ix3 0 0 j)) (fun j => Ax m c t.val t.isLt r j))
          (lgB m c t (ix2 0 l)) (lbB m c t (ix2 0 l)) l := by
  have h0 : ¬t.val % 11 = 0 := by omega
  simp only [Ax_next m c t r _ h0]
  rw [outsAt0_C m c t h0 h1]
  frame_open
  simp (disch := decide) only [↓ View.readCov_skip, ↓ View.readCov_cons_toLoadRect, ↓ View.readCov_fill]
  frame_out
  simp only [read_unread_whole]
  rw [pay4_at]
  simp only [pay3_at]
  rfl

end Cert.Kernel3Ideal.Dense
-- ==== Proof.DenseValue.lean ====
/-
  The dense feed-forward's blocks as stretches of the arrays the region finds, and by induction on the point what the scratch buffers hold: the
  modulated rows, and the sum of the contributions of the hidden units taken so far.
-/
module

public import proofs.«01_k».proof.Proof.DenseState

@[expose] public section

set_option maxRecDepth 16384

noncomputable section

open Idealize.ShloMosaic Idealize.ShloMosaic.TcCoe Idealize.SL.Sem

namespace Cert.Kernel3Ideal.Dense

open Cert.Kernel3Ideal Cert.Kernel3Ideal.Gen Cert.Rows

variable (m : (ℓ : Loc nD τ sig) → Buf (Elt Ideal) ℓ) (c : Dev nD)

/-- The arrays as the region finds them. -/
abbrev X : Vec Ideal S2x16384x1024 .f32 := V m c main_arg0
abbrev SH : Vec Ideal S2x1x1024 .f32 := V m c main_arg1
abbrev SC : Vec Ideal S2x1x1024 .f32 := V m c main_arg2
abbrev GA : Vec Ideal S2x1x1024 .f32 := V m c main_arg3
abbrev A : Vec Ideal S1024x2816 .bf16 := V m c main_v0
abbrev B : Vec Ideal S1024x2816 .bf16 := V m c main_v1
abbrev O : Vec Ideal S2816x1024 .bf16 := V m c main_v2
abbrev LG : Vec Ideal S1x1024 .f32 := V m c main_v3
abbrev LB : Vec Ideal S1x1024 .f32 := V m c main_v4

/-- A modulated row. -/
def hrow (b : Fin 2) (row : Fin 16384) : Fin 1024 → EReal :=
  fun d => modul (X m c (ix3 b row d)) (SC m c (ix3 b 0 d)) (SH m c (ix3 b 0 d))

/-- The contribution of hidden unit `k` to lane `l` of a row with modulated entries `h`. -/
def term (h : Fin 1024 → EReal) (l : Fin 1024) (k : ℕ) : EReal :=
  if hk : k < 2816 then unit h (fun d => A m c (ix2 d ⟨k, hk⟩)) (fun d => B m c (ix2 d ⟨k, hk⟩)) * O m c (ix2 ⟨k, hk⟩ l) else 0

/-- The index maps: batch, block of rows and block of hidden units of a point. -/
theorem idx : ∀ t : Fin cfg0.N, win0_0.index t = ![t.val / 176, t.val / 11 % 16, 0] ∧ win0_1.index t = ![t.val / 176, 0, 0]
    ∧ win0_2.index t = ![t.val / 176, 0, 0] ∧ win0_3.index t = ![t.val / 176, 0, 0] ∧ win0_4.index t = ![0, t.val % 11]
    ∧ win0_5.index t = ![0, t.val % 11] ∧ win0_6.index t = ![t.val % 11, 0] ∧ win0_7.index t = ![0, 0] ∧ win0_8.index t = ![0, 0]
    ∧ win0_9.index t = ![t.val / 176, t.val / 11 % 16, 0] ∧ t.val < 352 :=
  (by decide +kernel : ∀ t : Fin grid0.N, _)

theorem lt_pts {n : ℕ} (hn : n < cfg0.N) : n < 352 := by have : cfg0.N = 352 := N_0; omega

/-- The batch of a point and the array row of its block's row `r`. -/
abbrev bOf (n : ℕ) (hn : n < cfg0.N) : Fin 2 := ⟨n / 176, by have := lt_pts hn; omega⟩
abbrev qOf (n : ℕ) (hn : n < cfg0.N) (r : Fin 1024) : Fin 16384 := ⟨1024 * (n / 11 % 16) + r.val, by omega⟩

variable (t : Fin cfg0.N) (r l d : Fin 1024)

theorem xB_at : xB m c t (ix3 0 r d) = X m c (ix3 (bOf t.val t.isLt) (qOf t.val t.isLt r) d) := by
  have hi := idx t
  blk_point [iblk, idx t]
theorem shB_at : shB m c t (ix3 0 0 d) = SH m c (ix3 (bOf t.val t.isLt) 0 d) := by
  have hi := idx t
  blk_point [iblk, idx t]
theorem scB_at : scB m c t (ix3 0 0 d) = SC m c (ix3 (bOf t.val t.isLt) 0 d) := by
  have hi := idx t
  blk_point [iblk, idx t]
theorem gaB_at : gaB m c t (ix3 0 0 d) = GA m c (ix3 (bOf t.val t.isLt) 0 d) := by
  have hi := idx t
  blk_point [iblk, idx t]
theorem lgB_at : lgB m c t (ix2 0 d) = LG m c (ix2 0 d) := by
  have hi := idx t
  blk_point [iblk, idx t]
theorem lbB_at : lbB m c t (ix2 0 d) = LB m c (ix2 0 d) := by
  have hi := idx t
  blk_point [iblk, idx t]

variable (f : Fin 256)

/-- The hidden unit that lane `f` of a point's block is. -/
abbrev fOf : Fin 2816 := ⟨256 * (t.val % 11) + f.val, by omega⟩

theorem aB_at : aB m c t (ix2 d f) = A m c (ix2 d (fOf t f)) := by
  have hi := idx t
  blk_point [iblk, idx t]
theorem bB_at : bB m c t (ix2 d f) = B m c (ix2 d (fOf t f)) := by
  have hi := idx t
  blk_point [iblk, idx t]
theorem oB_at : oB m c t (ix2 f l) = O m c (ix2 (fOf t f) l) := by
  have hi := idx t
  blk_point [iblk, idx t]

/-- A point's contribution is that of a stretch of hidden units. -/
theorem part_eq (h : Fin 1024 → EReal) : part m c t h l = ∑ f : Fin 256, term m c h l (256 * (t.val % 11) + f.val) := by
  refine Finset.sum_congr rfl fun f _ => ?_
  rw [term, dif_pos (by omega)]
  simp only [aB_at, bB_at, oB_at]

/-- What the two scratch buffers hold after point `n`. -/
theorem fold : ∀ (n : ℕ) (hn : n < cfg0.N) (r : Fin 1024), Hx m c n hn r = hrow m c (bOf n hn) (qOf n hn r)
    ∧ ∀ l, Ax m c n hn r l = ∑ k ∈ Finset.range (256 * (n % 11) + 256), term m c (hrow m c (bOf n hn) (qOf n hn r)) l k := by
  have first : ∀ (t : Fin cfg0.N), t.val % 11 = 0 → ∀ r, Hx m c t.val t.isLt r = hrow m c (bOf t.val t.isLt) (qOf t.val t.isLt r)
      ∧ ∀ l, Ax m c t.val t.isLt r l = ∑ k ∈ Finset.range (256 * (t.val % 11) + 256), term m c (hrow m c (bOf t.val t.isLt) (qOf t.val t.isLt r)) l k := by
    intro t h0 r
    have hH : Hx m c t.val t.isLt r = hrow m c (bOf t.val t.isLt) (qOf t.val t.isLt r) := by
      rw [Hx_first m c t r h0]
      simp only [xB_at, scB_at, shB_at]
      rfl
    refine ⟨hH, fun l => ?_⟩
    rw [Ax_first m c t r l h0, hH, part_eq, ← sum_block, h0]
    simp only [Nat.mul_zero, Finset.range_zero, Finset.sum_empty]
  intro n
  induction n with
  | zero => exact fun hn r => first ⟨0, hn⟩ rfl r
  | succ n ih =>
    intro hn r
    by_cases h0 : (n + 1) % 11 = 0
    · exact first ⟨n + 1, hn⟩ h0 r
    · obtain ⟨iH, iA⟩ := ih (Nat.lt_of_succ_lt hn) r
      have hb : bOf n (Nat.lt_of_succ_lt hn) = bOf (n + 1) hn := Fin.ext (by show n / 176 = (n + 1) / 176; omega)
      have hq : qOf n (Nat.lt_of_succ_lt hn) r = qOf (n + 1) hn r :=
        Fin.ext (by show 1024 * (n / 11 % 16) + r.val = 1024 * ((n + 1) / 11 % 16) + r.val; omega)
      have hj : 256 * (n % 11) + 256 = 256 * ((n + 1) % 11) := by omega
      rw [hb, hq] at iH
      simp only [hb, hq, hj] at iA
      refine ⟨(Hx_next m c ⟨n + 1, hn⟩ r h0).trans iH, fun l => ?_⟩
      rw [Ax_next m c ⟨n + 1, hn⟩ r l h0]
      show Ax m c n _ r l + part m c ⟨n + 1, hn⟩ (Hx m c n _ r) l = _
      rw [iA l, iH, part_eq, ← sum_block]

end Cert.Kernel3Ideal.Dense
-- ==== Proof.DenseResult.lean ====
/-
  The dense feed-forward's result array: at every row, the layer norm of the scaled stream plus the gated sum of all 2816 contributions.
-/
module

public import proofs.«01_k».proof.Proof.DenseValue
public import Idealize.ShloMosaic.Lib.Pipeline.Covers

@[expose] public section

set_option maxRecDepth 16384

noncomputable section

open Idealize.ShloMosaic Idealize.ShloMosaic.TcCoe Idealize.SL.Sem

open Idealize.ShloMosaic.Pipeline (Dat)

namespace Cert.Kernel3Ideal.Dense

open Cert.Kernel3Ideal Cert.Kernel3Ideal.Gen Cert.Rows

variable (m : (ℓ : Loc nD τ sig) → Buf (Elt Ideal) ℓ) (c : Dev nD)

/-- The sum of all contributions to a row. -/
def total (b : Fin 2) (row : Fin 16384) (l : Fin 1024) : EReal :=
  ∑ k ∈ Finset.range 2816, term m c (hrow m c b row) l k

/-- The result, at a batch, a row and a lane. -/
def G (b : Fin 2) (row : Fin 16384) (l : Fin 1024) : EReal :=
  lnorm (resid (fun j => X m c (ix3 b row j)) (fun j => GA m c (ix3 b 0 j)) (total m c b row)) (LG m c (ix2 0 l)) (LB m c (ix2 0 l)) l

/-- The written-back blocks cover the result array. -/
theorem covers : (cfg0.win 9).Covers := by decide +kernel

/-- The result array after the run. -/
theorem final : (dats m 0 c).arrAt 9 cfg0.N = fun i : S2x16384x1024.Idx => G m c (i 0) (i 1) (i 2) := by
  refine (dats m 0 c).arrAt_eq_of_covers 9 _ covers fun t hf y => ?_
  have hl := (flush0_9 t).mp hf
  have hi := idx t
  blk_simp
  rw [after0_9]
  obtain ⟨u, r, l, rfl⟩ : ∃ u r l, y = (ix3 u r l : S1x1024x1024.Idx) := ⟨y 0, y 1, y 2, by funext a; fin_cases a <;> rfl⟩
  obtain rfl : u = 0 := Fin.fin_one_eq_zero u
  have hv := hi.2.2.2.2.2.2.2.2.2.1
  have v0 : ((win0_9.blk t).view.emb (ix3 0 r l) 0).val = t.val / 176 := by blk_simp [hv]; omega
  have e0 : (win0_9.blk t).view.emb (ix3 0 r l) 0 = bOf t.val t.isLt := Fin.ext v0
  have v1 : ((win0_9.blk t).view.emb (ix3 0 r l) 1).val = 1024 * (t.val / 11 % 16) + r.val := by blk_simp [hv]; omega
  have e1 : (win0_9.blk t).view.emb (ix3 0 r l) 1 = qOf t.val t.isLt r := Fin.ext v1
  have v2 : ((win0_9.blk t).view.emb (ix3 0 r l) 2).val = l.val := by blk_simp [hv]
  have e2 : (win0_9.blk t).view.emb (ix3 0 r l) 2 = l := Fin.ext v2
  refine Eq.trans ?_ (congr (congr (congrArg (G m c) e0.symm) e1.symm) e2.symm)
  rw [out_last m c t r l hl]
  have hA : (fun j => Ax m c t.val t.isLt r j) = total m c (bOf t.val t.isLt) (qOf t.val t.isLt r) := by
    funext j
    rw [(fold m c t.val t.isLt r).2 j, hl]
    rfl
  rw [hA]
  simp only [xB_at, gaB_at, lgB_at, lbB_at]
  rfl

end Cert.Kernel3Ideal.Dense
-- ==== Proof.DenseReference.lean ====
/-
  The dense feed-forward reference, part by part, each read at an index: the modulated rows, the hidden units, their product with
  the output weights, the residual sum and the layer norm.
-/
module

public import proofs.«01_k».proof.Proof.Gen.Reference3Ideal
public import proofs.«01_k».proof.Proof.Rows

@[expose] public section

set_option maxRecDepth 16384

noncomputable section

open Idealize.ShloMosaic Idealize.ShloMosaic.TcCoe Idealize.SL.Sem

namespace Cert.Reference3Ideal.Dense

open Cert.Reference3Ideal Cert.Reference3Ideal.Gen Cert.Rows
open Cert.Reference3Ideal.Facts

/-- The rows scaled and shifted. -/
def modulated (x : FVec Ideal S2x16384x1024 .f32) (sh sc : FVec Ideal S2x1x1024 .f32) : FVec Ideal S2x16384x1024 .f32 :=
  addf (mulf x (broadcastInDim S2x16384x1024 ![0, 1, 2] bcast_S2x1x1024_S2x16384x1024_0_1_2
    (addf (broadcastInDim S2x1x1024 ![] bcast_S_S2x1x1024 (constant S_ .f32 0x3F800000#32)) sc)))
    (broadcastInDim S2x16384x1024 ![0, 1, 2] bcast_S2x1x1024_S2x16384x1024_0_1_2 sh)

/-- The swish of `p` times `q`. -/
def hidden (p q : FVec Ideal S2x16384x2816 .f32) : FVec Ideal S2x16384x2816 .f32 :=
  mulf (mulf p (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf p))))) q

/-- The rows against a matrix of weights. -/
def projected (h : FVec Ideal S2x16384x1024 .f32) (w : FVec Ideal S1024x2816 .f32) : FVec Ideal S2x16384x2816 .f32 :=
  Host.dotGeneral dot_S2x16384x1024_S1024x2816_S2x16384x2816_2_0_01_1_n_n none h w

/-- The hidden units against the output weights. -/
def output (t : FVec Ideal S2x16384x2816 .f32) (w : FVec Ideal S2816x1024 .f32) : FVec Ideal S2x16384x1024 .f32 :=
  Host.dotGeneral dot_S2x16384x2816_S2816x1024_S2x16384x1024_2_0_01_1_n_n none t w

/-- The stream scaled by a constant, and the gated update `o`. -/
def joined (x : FVec Ideal S2x16384x1024 .f32) (ga : FVec Ideal S2x1x1024 .f32) (o : FVec Ideal S2x16384x1024 .f32) : FVec Ideal S2x16384x1024 .f32 :=
  addf (mulf (broadcastInDim S2x16384x1024 ![] bcast_S_S2x16384x1024 (constant S_ .f32 0x3FB504F3#32)) x)
    (mulf (broadcastInDim S2x16384x1024 ![0, 1, 2] bcast_S2x1x1024_S2x16384x1024_0_1_2 ga) o)

/-- The mean of every row, kept as a column. -/
def rowMean (y : FVec Ideal S2x16384x1024 .f32) : FVec Ideal S2x16384x1 .f32 :=
  Host.divf (broadcastInDim S2x16384x1 ![0, 1] bcast_S2x16384_S2x16384x1_0_1
    (Host.reduceAdd y (constant S_ .f32 0x00000000#32) reducesTo_S2x16384x1024_S2x16384_d2 h_S_))
    (broadcastInDim S2x16384x1 ![] bcast_S_S2x16384x1 (constant S_ .f32 0x44800000#32))

/-- Every row less a column. -/
def centred (y : FVec Ideal S2x16384x1024 .f32) (u : FVec Ideal S2x16384x1 .f32) : FVec Ideal S2x16384x1024 .f32 :=
  subf y (broadcastInDim S2x16384x1024 ![0, 1, 2] bcast_S2x16384x1_S2x16384x1024_0_1_2 u)

/-- The centred rows `d` over the root of the mean square `v` and a constant, with weights and biases. -/
def scaled (d : FVec Ideal S2x16384x1024 .f32) (v : FVec Ideal S2x16384x1 .f32) (g b : FVec Ideal S1024 .f32) : FVec Ideal S2x16384x1024 .f32 :=
  addf (mulf (mulf d (broadcastInDim S2x16384x1024 ![0, 1, 2] bcast_S2x16384x1_S2x16384x1024_0_1_2
      (Host.rsqrt (addf v (broadcastInDim S2x16384x1 ![] bcast_S_S2x16384x1 (constant S_ .f32 0x3727C5AC#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S1x1x1024_S2x16384x1024_0_1_2 (broadcastInDim S1x1x1024 ![2] bcast_S1024_S1x1x1024_2 b))

variable (x : FVec Ideal S2x16384x1024 .f32) (sh sc ga : FVec Ideal S2x1x1024 .f32) (b : Fin 2) (i : Fin 16384) (l : Fin 1024)

theorem modulated_at : modulated x sh sc (ix3 b i l) = modul (x (ix3 b i l)) (sc (ix3 b 0 l)) (sh (ix3 b 0 l)) := by
  pointwise [modulated, modul]

theorem projected_at (h : FVec Ideal S2x16384x1024 .f32) (w : FVec Ideal S1024x2816 .f32) (f : Fin 2816) :
    projected h w (ix3 b i f) = ∑ d : Fin 1024, h (ix3 b i d) * w (ix2 d f) := by
  pointwise [projected]

theorem hidden_at (p q : FVec Ideal S2x16384x2816 .f32) (f : Fin 2816) :
    hidden p q (ix3 b i f) = p (ix3 b i f) * Ideal.logistic (p (ix3 b i f)) * q (ix3 b i f) := by
  pointwise [hidden, Ideal.logistic]

theorem output_at (t : FVec Ideal S2x16384x2816 .f32) (w : FVec Ideal S2816x1024 .f32) :
    output t w (ix3 b i l) = ∑ f : Fin 2816, t (ix3 b i f) * w (ix2 f l) := by
  pointwise [output]

theorem joined_at (o : FVec Ideal S2x16384x1024 .f32) :
    joined x ga o (ix3 b i l) = resid (fun j => x (ix3 b i j)) (fun j => ga (ix3 b 0 j)) (fun j => o (ix3 b i j)) l := by
  pointwise [joined, resid]

theorem rowMean_at (y : FVec Ideal S2x16384x1024 .f32) : rowMean y (ix3 b i 0) = mean (fun j => y (ix3 b i j)) := by
  pointwise [rowMean, mean]

theorem centred_at (y : FVec Ideal S2x16384x1024 .f32) (u : FVec Ideal S2x16384x1 .f32) :
    centred y u (ix3 b i l) = y (ix3 b i l) - u (ix3 b i 0) := by
  pointwise [centred]

theorem scaled_at (d : FVec Ideal S2x16384x1024 .f32) (v : FVec Ideal S2x16384x1 .f32) (g a : FVec Ideal S1024 .f32) :
    scaled d v g a (ix3 b i l) = d (ix3 b i l) * Ideal.rsqrt (v (ix3 b i 0) + Ideal.ofBits .f32 925353388#32) * g (ix1 l) + a (ix1 l) := by
  pointwise [scaled]

/-- The layer norm of every row. -/
def normed (y : FVec Ideal S2x16384x1024 .f32) (g a : FVec Ideal S1024 .f32) : FVec Ideal S2x16384x1024 .f32 :=
  scaled (centred y (rowMean y)) (rowMean (mulf (centred y (rowMean y)) (centred y (rowMean y)))) g a

theorem sq_at (d : FVec Ideal S2x16384x1024 .f32) : mulf d d (ix3 b i l) = d (ix3 b i l) * d (ix3 b i l) := by
  pointwise

theorem normed_at (y : FVec Ideal S2x16384x1024 .f32) (g a : FVec Ideal S1024 .f32) :
    normed y g a (ix3 b i l) = lnorm (fun j => y (ix3 b i j)) (g (ix1 l)) (a (ix1 l)) l := by
  rw [normed, scaled_at, rowMean_at]
  simp only [sq_at, centred_at, rowMean_at]
  rfl

variable (w1 w3 : FVec Ideal S1024x2816 .f32) (w2 : FVec Ideal S2816x1024 .f32) (g a : FVec Ideal S1024 .f32)

/-- The update, before its gate. -/
def update : FVec Ideal S2x16384x1024 .f32 :=
  output (hidden (projected (modulated x sh sc) w1) (projected (modulated x sh sc) w3)) w2

/-- The whole reference. -/
def whole : FVec Ideal S2x16384x1024 .f32 := normed (joined x ga (update x sh sc w1 w3 w2)) g a

/-- A modulated row. -/
def hrow : Fin 1024 → EReal := fun d => modul (x (ix3 b i d)) (sc (ix3 b 0 d)) (sh (ix3 b 0 d))

theorem update_at : update x sh sc w1 w3 w2 (ix3 b i l)
    = ∑ f : Fin 2816, unit (hrow x sh sc b i) (fun d => w1 (ix2 d f)) (fun d => w3 (ix2 d f)) * w2 (ix2 f l) := by
  rw [update, output_at]
  refine Finset.sum_congr rfl fun f _ => ?_
  rw [hidden_at, projected_at, projected_at]
  simp only [modulated_at]
  rfl

theorem whole_at : whole x sh sc ga w1 w3 w2 g a (ix3 b i l)
    = lnorm (resid (fun j => x (ix3 b i j)) (fun j => ga (ix3 b 0 j)) (fun j => update x sh sc w1 w3 w2 (ix3 b i j))) (g (ix1 l)) (a (ix1 l)) l := by
  rw [whole, normed_at]
  simp only [joined_at]

end Cert.Reference3Ideal.Dense
-- ==== Proof.DenseEquation.lean ====
/-
  The dense feed-forward kernel's result array is the reference's composed term of the same arguments. No condition is needed:
  both add the same products in the extended reals, in another order.
-/
module

public import proofs.«01_k».proof.Proof.DenseResult
public import proofs.«01_k».proof.Proof.DenseReference

@[expose] public section

set_option maxRecDepth 16384

noncomputable section

open Idealize.ShloMosaic Idealize.ShloMosaic.TcCoe Idealize.SL.Sem

namespace Cert.Kernel3Ideal.Dense

open Cert.Kernel3Ideal Cert.Kernel3Ideal.Gen Cert.Rows

variable (m : (ℓ : Loc nD τ sig) → Buf (Elt Ideal) ℓ) (c : Dev nD)

/-- The arguments that the host prepares for the kernel: weights narrowed, weights and biases of the norm as rows. -/
abbrev w1 : Vec Ideal S1024x2816 .f32 := m ((c : Thread nD τ).loc main_arg4)
abbrev w3 : Vec Ideal S1024x2816 .f32 := m ((c : Thread nD τ).loc main_arg5)
abbrev w2 : Vec Ideal S2816x1024 .f32 := m ((c : Thread nD τ).loc main_arg6)
abbrev lg : Vec Ideal S1024 .f32 := m ((c : Thread nD τ).loc main_arg7)
abbrev lb : Vec Ideal S1024 .f32 := m ((c : Thread nD τ).loc main_arg8)

theorem A_eq : A m c = w1 m c := by
  unfold A
  entry_read
  rfl
theorem B_eq : B m c = w3 m c := by
  unfold B
  entry_read
  rfl
theorem O_eq : O m c = w2 m c := by
  unfold O
  entry_read
  rfl
theorem LG_at (l : Fin 1024) : LG m c (ix2 0 l) = lg m c (ix1 l) := by
  unfold LG
  entry_read
  pointwise
theorem LB_at (l : Fin 1024) : LB m c (ix2 0 l) = lb m c (ix1 l) := by
  unfold LB
  entry_read
  pointwise

/-- The sum of all contributions to a row is the reference's update. -/
theorem total_eq (b : Fin 2) (row : Fin 16384) (l : Fin 1024) :
    total m c b row l = Cert.Reference3Ideal.Dense.update (X m c) (SH m c) (SC m c) (w1 m c) (w3 m c) (w2 m c) (ix3 b row l) := by
  rw [Cert.Reference3Ideal.Dense.update_at, total, ← Fin.sum_univ_eq_sum_range]
  refine Finset.sum_congr rfl fun f _ => ?_
  rw [term, dif_pos f.isLt, A_eq, B_eq, O_eq]
  rfl

/-- The kernel's result array is the reference's composed term of the same arguments. -/
theorem result : (dats m 0 c).arrAt 9 cfg0.N
    = Cert.Reference3Ideal.Dense.whole (X m c) (SH m c) (SC m c) (GA m c) (w1 m c) (w3 m c) (w2 m c) (lg m c) (lb m c) := by
  rw [final]
  funext i
  obtain ⟨b, row, l, rfl⟩ : ∃ b row l, i = (ix3 b row l : S2x16384x1024.Idx) := ⟨i 0, i 1, i 2, by funext a; fin_cases a <;> rfl⟩
  refine Eq.trans ?_ (Cert.Reference3Ideal.Dense.whole_at ..).symm
  show G m c b row l = _
  rw [G, LG_at, LB_at]
  exact congrArg (fun T => lnorm (resid (fun j => X m c (ix3 b row j)) (fun j => GA m c (ix3 b 0 j)) T) (lg m c (ix1 l)) (lb m c (ix1 l)) l)
    (funext fun j => total_eq m c b row j)

end Cert.Kernel3Ideal.Dense
-- ==== Proof.ProjectPayload.lean ====
/-
  What one grid point of the combined input projection writes to its six output blocks: stretches of the columns of the
  modulated rows' product with the arranged weights.
-/
module

public import proofs.«01_k».proof.Proof.Gen.Kernel4Ideal.Value
public import proofs.«01_k».proof.Proof.Rows

@[expose] public section

set_option maxRecDepth 16384

noncomputable section

open Idealize.ShloMosaic Idealize.ShloMosaic.TcCoe Idealize.SL.Sem

namespace Cert.Kernel4Ideal.Project

open Cert.Kernel4Ideal Cert.Kernel4Ideal.Gen Cert.Kernel4Ideal.Value Cert.Rows

variable (x : Vec Ideal S1x512x1024 .f32) (sh sc : Vec Ideal S1x1x1024 .f32) (w : Vec Ideal S1024x2176 .bf16) (r : Fin 512)

/-- A column of the product of a block's modulated row with the weights. -/
def column (k : Fin 2176) : EReal := ∑ d : Fin 1024, modul (x (ix3 0 r d)) (sc (ix3 0 0 d)) (sh (ix3 0 0 d)) * w (ix2 d k)

theorem pay4_at (k : Fin 2176) : k0_pay4 (F := Ideal) x sc sh w (ix2 r k) = column x sh sc w r k := by
  pointwise [k0_pay4, modul, column]

/-- The three groups of channels of the long convolution. -/
theorem out4_at (l : Fin 768) : out0_4 x sh sc w (ix3 0 r l) = column x sh sc w r ⟨l.val, by omega⟩ := by
  unfold_out out0_4
  frame_out
  pointwise [k0_pay5, pay4_at]

/-- The queries and keys of the linear attention. -/
theorem out5_at (l : Fin 256) : out0_5 x sh sc w (ix3 0 r l) = column x sh sc w r ⟨768 + l.val, by omega⟩ := by
  unfold_out out0_5
  frame_out
  pointwise [k0_pay6, pay4_at]

/-- The values and output gates of the linear attention. -/
theorem out6_at (l : Fin 512) : out0_6 x sh sc w (ix3 0 r l) = column x sh sc w r ⟨1024 + l.val, by omega⟩ := by
  unfold_out out0_6
  frame_out
  pointwise [k0_pay7, pay4_at]

/-- The decay gates of the linear attention, with spare lanes. -/
theorem out7_at (l : Fin 128) : out0_7 x sh sc w (ix3 0 r l) = column x sh sc w r ⟨1536 + l.val, by omega⟩ := by
  unfold_out out0_7
  frame_out
  pointwise [k0_pay1, k0_pay8, pay4_at]

/-- The latent queries of the attention. -/
theorem out8_at (l : Fin 256) : out0_8 x sh sc w (ix3 0 r l) = column x sh sc w r ⟨1664 + l.val, by omega⟩ := by
  unfold_out out0_8
  frame_out
  pointwise [k0_pay2, pay4_at]

/-- The latent keys and values and the rotary key of the attention, with spare lanes. -/
theorem out9_at (l : Fin 256) : out0_9 x sh sc w (ix3 0 r l) = column x sh sc w r ⟨1920 + l.val, by omega⟩ := by
  unfold_out out0_9
  frame_out
  pointwise [k0_pay3, pay4_at]

end Cert.Kernel4Ideal.Project
-- ==== Proof.ProjectValue.lean ====
/-
  The combined input projection's blocks as stretches of the arrays the region finds, and its six result arrays after the run:
  stretches of the columns of the product of the modulated rows with the arranged weights.
-/
module

public import proofs.«01_k».proof.Proof.ProjectPayload
public import Idealize.ShloMosaic.Lib.Pipeline.Covers

@[expose] public section

set_option maxRecDepth 16384

noncomputable section

open Idealize.ShloMosaic Idealize.ShloMosaic.TcCoe Idealize.SL.Sem

open Idealize.ShloMosaic.Pipeline (Dat)

namespace Cert.Kernel4Ideal.Project

open Cert.Kernel4Ideal Cert.Kernel4Ideal.Gen Cert.Rows

variable (m : (ℓ : Loc nD τ sig) → Buf (Elt Ideal) ℓ) (c : Dev nD)

/-- The arrays as the region finds them. -/
abbrev X : Vec Ideal S2x16384x1024 .f32 := V m c main_arg0
abbrev SH : Vec Ideal S2x1x1024 .f32 := V m c main_arg1
abbrev SC : Vec Ideal S2x1x1024 .f32 := V m c main_arg2
abbrev W : Vec Ideal S1024x2176 .bf16 := V m c main_v11

/-- A column of the product of the modulated rows with the arranged weights. -/
def product (b : Fin 2) (row : Fin 16384) (k : Fin 2176) : EReal :=
  ∑ d : Fin 1024, modul (X m c (ix3 b row d)) (SC m c (ix3 b 0 d)) (SH m c (ix3 b 0 d)) * W m c (ix2 d k)

/-- The index maps: batch and block of rows of a point. -/
theorem idx : ∀ t : Fin cfg0.N, win0_0.index t = ![t.val / 32, t.val % 32, 0] ∧ win0_1.index t = ![t.val / 32, 0, 0]
    ∧ win0_2.index t = ![t.val / 32, 0, 0] ∧ win0_3.index t = ![0, 0]
    ∧ win0_4.index t = ![t.val / 32, t.val % 32, 0] ∧ win0_5.index t = ![t.val / 32, t.val % 32, 0]
    ∧ win0_6.index t = ![t.val / 32, t.val % 32, 0] ∧ win0_7.index t = ![t.val / 32, t.val % 32, 0]
    ∧ win0_8.index t = ![t.val / 32, t.val % 32, 0] ∧ win0_9.index t = ![t.val / 32, t.val % 32, 0] ∧ t.val < 64 :=
  (by decide +kernel : ∀ t : Fin grid0.N, _)

variable (t : Fin cfg0.N) (r : Fin 512) (d : Fin 1024)

theorem lt_pts : t.val < 64 := (idx t).2.2.2.2.2.2.2.2.2.2

/-- The batch of a point and the array row of its block's row `r`. -/
abbrev bOf : Fin 2 := ⟨t.val / 32, by have := lt_pts t; omega⟩
abbrev qOf : Fin 16384 := ⟨512 * (t.val % 32) + r.val, by omega⟩

theorem x_at : (iblk m c 0 t : Vec Ideal S1x512x1024 .f32) (ix3 0 r d) = X m c (ix3 (bOf t) (qOf t r) d) := by
  have hi := idx t
  blk_point [iblk, idx t]
theorem sh_at : (iblk m c 1 t : Vec Ideal S1x1x1024 .f32) (ix3 0 0 d) = SH m c (ix3 (bOf t) 0 d) := by
  have hi := idx t
  blk_point [iblk, idx t]
theorem sc_at : (iblk m c 2 t : Vec Ideal S1x1x1024 .f32) (ix3 0 0 d) = SC m c (ix3 (bOf t) 0 d) := by
  have hi := idx t
  blk_point [iblk, idx t]
theorem w_at (k : Fin 2176) : (iblk m c 3 t : Vec Ideal S1024x2176 .bf16) (ix2 d k) = W m c (ix2 d k) := by
  have hi := idx t
  blk_point [iblk, idx t]

/-- A column of a point's product is a column of the whole product. -/
theorem column_eq (k : Fin 2176) : column (iblk m c 0 t) (iblk m c 1 t) (iblk m c 2 t) (iblk m c 3 t) r k = product m c (bOf t) (qOf t r) k := by
  unfold column product
  simp only [x_at, sh_at, sc_at, w_at]

/-- The columns of result 0: the three groups of channels of the long convolution. -/
def G4 (b : Fin 2) (row : Fin 16384) (l : Fin 768) : EReal := product m c b row ⟨(l).val, by omega⟩

theorem final4 : (dats m 0 c).arrAt 4 cfg0.N = fun i : S2x16384x768.Idx => G4 m c (i 0) (i 1) (i 2) := by
  refine (dats m 0 c).arrAt_eq_of_covers 4 _ (by decide +kernel) fun t _ y => ?_
  have hi := idx t
  blk_simp
  rw [after0_4]
  obtain ⟨u, r, l, rfl⟩ : ∃ u r l, y = (ix3 u r l : S1x512x768.Idx) := ⟨y 0, y 1, y 2, by funext a; fin_cases a <;> rfl⟩
  obtain rfl : u = 0 := Fin.fin_one_eq_zero u
  have hv := hi.2.2.2.2.1
  have e0 : (win0_4.blk t).view.emb (ix3 0 r l) 0 = bOf t := Fin.ext (show _ = t.val / 32 by blk_simp [hv]; omega)
  have e1 : (win0_4.blk t).view.emb (ix3 0 r l) 1 = qOf t r := Fin.ext (show _ = 512 * (t.val % 32) + r.val by blk_simp [hv]; omega)
  have e2 : (win0_4.blk t).view.emb (ix3 0 r l) 2 = l := Fin.ext (by blk_simp [hv])
  refine Eq.trans ?_ (congr (congr (congrArg (G4 m c) e0.symm) e1.symm) e2.symm)
  exact (out4_at ..).trans (column_eq ..)

/-- The columns of result 1: the queries and keys of the linear attention. -/
def G5 (b : Fin 2) (row : Fin 16384) (l : Fin 256) : EReal := product m c b row ⟨768 + (l).val, by omega⟩

theorem final5 : (dats m 0 c).arrAt 5 cfg0.N = fun i : S2x16384x256.Idx => G5 m c (i 0) (i 1) (i 2) := by
  refine (dats m 0 c).arrAt_eq_of_covers 5 _ (by decide +kernel) fun t _ y => ?_
  have hi := idx t
  blk_simp
  rw [after0_5]
  obtain ⟨u, r, l, rfl⟩ : ∃ u r l, y = (ix3 u r l : S1x512x256.Idx) := ⟨y 0, y 1, y 2, by funext a; fin_cases a <;> rfl⟩
  obtain rfl : u = 0 := Fin.fin_one_eq_zero u
  have hv := hi.2.2.2.2.2.1
  have e0 : (win0_5.blk t).view.emb (ix3 0 r l) 0 = bOf t := Fin.ext (show _ = t.val / 32 by blk_simp [hv]; omega)
  have e1 : (win0_5.blk t).view.emb (ix3 0 r l) 1 = qOf t r := Fin.ext (show _ = 512 * (t.val % 32) + r.val by blk_simp [hv]; omega)
  have e2 : (win0_5.blk t).view.emb (ix3 0 r l) 2 = l := Fin.ext (by blk_simp [hv])
  refine Eq.trans ?_ (congr (congr (congrArg (G5 m c) e0.symm) e1.symm) e2.symm)
  exact (out5_at ..).trans (column_eq ..)

/-- The columns of result 2: the values and output gates of the linear attention. -/
def G6 (b : Fin 2) (row : Fin 16384) (l : Fin 512) : EReal := product m c b row ⟨1024 + (l).val, by omega⟩

theorem final6 : (dats m 0 c).arrAt 6 cfg0.N = fun i : S2x16384x512.Idx => G6 m c (i 0) (i 1) (i 2) := by
  refine (dats m 0 c).arrAt_eq_of_covers 6 _ (by decide +kernel) fun t _ y => ?_
  have hi := idx t
  blk_simp
  rw [after0_6]
  obtain ⟨u, r, l, rfl⟩ : ∃ u r l, y = (ix3 u r l : S1x512x512.Idx) := ⟨y 0, y 1, y 2, by funext a; fin_cases a <;> rfl⟩
  obtain rfl : u = 0 := Fin.fin_one_eq_zero u
  have hv := hi.2.2.2.2.2.2.1
  have e0 : (win0_6.blk t).view.emb (ix3 0 r l) 0 = bOf t := Fin.ext (show _ = t.val / 32 by blk_simp [hv]; omega)
  have e1 : (win0_6.blk t).view.emb (ix3 0 r l) 1 = qOf t r := Fin.ext (show _ = 512 * (t.val % 32) + r.val by blk_simp [hv]; omega)
  have e2 : (win0_6.blk t).view.emb (ix3 0 r l) 2 = l := Fin.ext (by blk_simp [hv])
  refine Eq.trans ?_ (congr (congr (congrArg (G6 m c) e0.symm) e1.symm) e2.symm)
  exact (out6_at ..).trans (column_eq ..)

/-- The columns of result 3: the decay gates of the linear attention, with spare lanes. -/
def G7 (b : Fin 2) (row : Fin 16384) (l : Fin 128) : EReal := product m c b row ⟨1536 + (l).val, by omega⟩

theorem final7 : (dats m 0 c).arrAt 7 cfg0.N = fun i : S2x16384x128.Idx => G7 m c (i 0) (i 1) (i 2) := by
  refine (dats m 0 c).arrAt_eq_of_covers 7 _ (by decide +kernel) fun t _ y => ?_
  have hi := idx t
  blk_simp
  rw [after0_7]
  obtain ⟨u, r, l, rfl⟩ : ∃ u r l, y = (ix3 u r l : S1x512x128.Idx) := ⟨y 0, y 1, y 2, by funext a; fin_cases a <;> rfl⟩
  obtain rfl : u = 0 := Fin.fin_one_eq_zero u
  have hv := hi.2.2.2.2.2.2.2.1
  have e0 : (win0_7.blk t).view.emb (ix3 0 r l) 0 = bOf t := Fin.ext (show _ = t.val / 32 by blk_simp [hv]; omega)
  have e1 : (win0_7.blk t).view.emb (ix3 0 r l) 1 = qOf t r := Fin.ext (show _ = 512 * (t.val % 32) + r.val by blk_simp [hv]; omega)
  have e2 : (win0_7.blk t).view.emb (ix3 0 r l) 2 = l := Fin.ext (by blk_simp [hv])
  refine Eq.trans ?_ (congr (congr (congrArg (G7 m c) e0.symm) e1.symm) e2.symm)
  exact (out7_at ..).trans (column_eq ..)

/-- The columns of result 4: the latent queries of the attention. -/
def G8 (b : Fin 2) (row : Fin 16384) (l : Fin 256) : EReal := product m c b row ⟨1664 + (l).val, by omega⟩

theorem final8 : (dats m 0 c).arrAt 8 cfg0.N = fun i : S2x16384x256.Idx => G8 m c (i 0) (i 1) (i 2) := by
  refine (dats m 0 c).arrAt_eq_of_covers 8 _ (by decide +kernel) fun t _ y => ?_
  have hi := idx t
  blk_simp
  rw [after0_8]
  obtain ⟨u, r, l, rfl⟩ : ∃ u r l, y = (ix3 u r l : S1x512x256.Idx) := ⟨y 0, y 1, y 2, by funext a; fin_cases a <;> rfl⟩
  obtain rfl : u = 0 := Fin.fin_one_eq_zero u
  have hv := hi.2.2.2.2.2.2.2.2.1
  have e0 : (win0_8.blk t).view.emb (ix3 0 r l) 0 = bOf t := Fin.ext (show _ = t.val / 32 by blk_simp [hv]; omega)
  have e1 : (win0_8.blk t).view.emb (ix3 0 r l) 1 = qOf t r := Fin.ext (show _ = 512 * (t.val % 32) + r.val by blk_simp [hv]; omega)
  have e2 : (win0_8.blk t).view.emb (ix3 0 r l) 2 = l := Fin.ext (by blk_simp [hv])
  refine Eq.trans ?_ (congr (congr (congrArg (G8 m c) e0.symm) e1.symm) e2.symm)
  exact (out8_at ..).trans (column_eq ..)

/-- The columns of result 5: the latent keys and values and the rotary key of the attention, with spare lanes. -/
def G9 (b : Fin 2) (row : Fin 16384) (l : Fin 256) : EReal := product m c b row ⟨1920 + (l).val, by omega⟩

theorem final9 : (dats m 0 c).arrAt 9 cfg0.N = fun i : S2x16384x256.Idx => G9 m c (i 0) (i 1) (i 2) := by
  refine (dats m 0 c).arrAt_eq_of_covers 9 _ (by decide +kernel) fun t _ y => ?_
  have hi := idx t
  blk_simp
  rw [after0_9]
  obtain ⟨u, r, l, rfl⟩ : ∃ u r l, y = (ix3 u r l : S1x512x256.Idx) := ⟨y 0, y 1, y 2, by funext a; fin_cases a <;> rfl⟩
  obtain rfl : u = 0 := Fin.fin_one_eq_zero u
  have hv := hi.2.2.2.2.2.2.2.2.2.1
  have e0 : (win0_9.blk t).view.emb (ix3 0 r l) 0 = bOf t := Fin.ext (show _ = t.val / 32 by blk_simp [hv]; omega)
  have e1 : (win0_9.blk t).view.emb (ix3 0 r l) 1 = qOf t r := Fin.ext (show _ = 512 * (t.val % 32) + r.val by blk_simp [hv]; omega)
  have e2 : (win0_9.blk t).view.emb (ix3 0 r l) 2 = l := Fin.ext (by blk_simp [hv])
  refine Eq.trans ?_ (congr (congr (congrArg (G9 m c) e0.symm) e1.symm) e2.symm)
  exact (out9_at ..).trans (column_eq ..)

end Cert.Kernel4Ideal.Project
-- ==== Proof.ProjectReference.lean ====
/-
  The combined input projection's reference, part by part, each read at an index: the modulated rows, their product with the
  weights, and the six groups of its columns.
-/
module

public import proofs.«01_k».proof.Proof.Gen.Reference4Ideal
public import proofs.«01_k».proof.Proof.Rows

@[expose] public section

set_option maxRecDepth 16384

noncomputable section

open Idealize.ShloMosaic Idealize.ShloMosaic.TcCoe Idealize.SL.Sem

namespace Cert.Reference4Ideal.Project

open Cert.Reference4Ideal Cert.Reference4Ideal.Gen Cert.Rows
open Cert.Reference4Ideal.Facts

/-- The rows scaled and shifted, against the weights. -/
def product (x : FVec Ideal S2x16384x1024 .f32) (sh sc : FVec Ideal S2x1x1024 .f32) (w : FVec Ideal S1024x1984 .f32) : FVec Ideal S2x16384x1984 .f32 :=
  Host.dotGeneral dot_S2x16384x1024_S1024x1984_S2x16384x1984_2_0_01_1_n_n none
    (addf (mulf x (broadcastInDim S2x16384x1024 ![0, 1, 2] bcast_S2x1x1024_S2x16384x1024_0_1_2
      (addf (broadcastInDim S2x1x1024 ![] bcast_S_S2x1x1024 (constant S_ .f32 0x3F800000#32)) sc)))
      (broadcastInDim S2x16384x1024 ![0, 1, 2] bcast_S2x1x1024_S2x16384x1024_0_1_2 sh)) w

variable (p : FVec Ideal S2x16384x1984 .f32)

/-- The groups that are one stretch of columns: the convolution's channels and the attention's latent queries. -/
def channels : FVec Ideal S2x16384x768 .f32 := extractStridedSlice S2x16384x768 ![0, 0, 800] p slices_S2x16384x1984_S2x16384x768_0_0_800
def latents : FVec Ideal S2x16384x256 .f32 := extractStridedSlice S2x16384x256 ![0, 0, 1568] p slices_S2x16384x1984_S2x16384x256_0_0_1568

/-- The queries beside the keys, and the values beside the output gates, of the linear attention. -/
def queriesKeys : FVec Ideal S2x16384x256 .f32 :=
  concatenate S2x16384x256 2 [⟨S2x16384x128, extractStridedSlice S2x16384x128 ![0, 0, 0] p slices_S2x16384x1984_S2x16384x128_0_0_0⟩,
    ⟨S2x16384x128, extractStridedSlice S2x16384x128 ![0, 0, 128] p slices_S2x16384x1984_S2x16384x128_0_0_128⟩]
    concatenates_S2x16384x128_S2x16384x128_S2x16384x256_d2
def valuesGates : FVec Ideal S2x16384x512 .f32 :=
  concatenate S2x16384x512 2 [⟨S2x16384x256, extractStridedSlice S2x16384x256 ![0, 0, 256] p slices_S2x16384x1984_S2x16384x256_0_0_256⟩,
    ⟨S2x16384x256, extractStridedSlice S2x16384x256 ![0, 0, 512] p slices_S2x16384x1984_S2x16384x256_0_0_512⟩]
    concatenates_S2x16384x256_S2x16384x256_S2x16384x512_d2

/-- The lanes that no column fills. -/
def spare : FVec Ideal S2x16384x96 .f32 := broadcastInDim S2x16384x96 ![] bcast_S_S2x16384x96 (constant S_ .f32 0x00000000#32)

/-- The decay gates, and the latent keys and values beside the rotary key, with spare lanes. -/
def decays : FVec Ideal S2x16384x128 .f32 :=
  concatenate S2x16384x128 2 [⟨S2x16384x32, extractStridedSlice S2x16384x32 ![0, 0, 768] p slices_S2x16384x1984_S2x16384x32_0_0_768⟩,
    ⟨S2x16384x96, spare⟩] concatenates_S2x16384x32_S2x16384x96_S2x16384x128_d2
def keysValues : FVec Ideal S2x16384x256 .f32 :=
  concatenate S2x16384x256 2 [⟨S2x16384x128, extractStridedSlice S2x16384x128 ![0, 0, 1824] p slices_S2x16384x1984_S2x16384x128_0_0_1824⟩,
    ⟨S2x16384x32, extractStridedSlice S2x16384x32 ![0, 0, 1952] p slices_S2x16384x1984_S2x16384x32_0_0_1952⟩, ⟨S2x16384x96, spare⟩]
    concatenates_S2x16384x128_S2x16384x32_S2x16384x96_S2x16384x256_d2

variable (b : Fin 2) (i : Fin 16384)

theorem product_at (x : FVec Ideal S2x16384x1024 .f32) (sh sc : FVec Ideal S2x1x1024 .f32) (w : FVec Ideal S1024x1984 .f32) (s : Fin 1984) :
    product x sh sc w (ix3 b i s) = ∑ d : Fin 1024, modul (x (ix3 b i d)) (sc (ix3 b 0 d)) (sh (ix3 b 0 d)) * w (ix2 d s) := by
  pointwise [product, modul]

theorem channels_at (l : Fin 768) : channels p (ix3 b i l) = p (ix3 b i ⟨800 + l.val, by omega⟩) := by
  pointwise [channels]
theorem latents_at (l : Fin 256) : latents p (ix3 b i l) = p (ix3 b i ⟨1568 + l.val, by omega⟩) := by
  pointwise [latents]

theorem same {s s' : Fin 1984} (h : s.val = s'.val) : p (ix3 b i s) = p (ix3 b i s') := congrArg (fun s => p (ix3 b i s)) (Fin.ext h)

theorem queriesKeys_at (l : Fin 256) : queriesKeys p (ix3 b i l) = p (ix3 b i ⟨l.val, by omega⟩) := by
  pointwise [queriesKeys]
  split_ifs <;> first | rfl | (refine same p b i ?_; dsimp only; omega)

theorem valuesGates_at (l : Fin 512) : valuesGates p (ix3 b i l) = p (ix3 b i ⟨256 + l.val, by omega⟩) := by
  pointwise [valuesGates]
  split_ifs <;> first | rfl | (refine same p b i ?_; dsimp only; omega)

theorem decays_at (l : Fin 128) : decays p (ix3 b i l) = if h : l.val < 32 then p (ix3 b i ⟨768 + l.val, by omega⟩) else 0 := by
  pointwise [decays, spare]

theorem keysValues_at (l : Fin 256) : keysValues p (ix3 b i l) = if h : l.val < 160 then p (ix3 b i ⟨1824 + l.val, by omega⟩) else 0 := by
  pointwise [keysValues, spare]
  by_cases h0 : l.val < 128
  · rw [dif_pos h0, dif_pos (by omega)]
  · rw [dif_neg h0]
    by_cases h1 : l.val < 160
    · rw [dif_pos h1, dif_pos (by omega)]
      exact same p b i (by dsimp only; omega)
    · rw [dif_neg h1, dif_neg (by omega)]

end Cert.Reference4Ideal.Project
-- ==== Proof.ProjectEquation.lean ====
/-
  The combined input projection's six result arrays are the reference's terms of the same arguments: the arranged weights have
  the same columns in another order, and zero columns where the reference has spare lanes. No condition is needed.
-/
module

public import proofs.«01_k».proof.Proof.ProjectValue
public import proofs.«01_k».proof.Proof.ProjectReference

@[expose] public section

set_option maxRecDepth 16384

noncomputable section

open Idealize.ShloMosaic Idealize.ShloMosaic.TcCoe Idealize.SL.Sem

namespace Cert.Kernel4Ideal.Project

open Cert.Kernel4Ideal Cert.Kernel4Ideal.Gen Cert.Rows

variable (m : (ℓ : Loc nD τ sig) → Buf (Elt Ideal) ℓ) (c : Dev nD)

/-- The weights as the layer gives them. -/
abbrev w : Vec Ideal S1024x1984 .f32 := m ((c : Thread nD τ).loc main_arg3)

/-- The weights with their groups of columns in the kernel's order, and zero columns after two of them. -/
def arranged (w : Vec Ideal S1024x1984 .f32) : Vec Ideal S1024x2176 .bf16 :=
  truncf (F := Ideal) .bf16 (concatenate S1024x2176 1 [⟨S1024x768, extractStridedSlice S1024x768 ![0, 800] w slices_S1024x1984_S1024x768_0_800⟩,
    ⟨S1024x128, extractStridedSlice S1024x128 ![0, 0] w slices_S1024x1984_S1024x128_0_0⟩,
    ⟨S1024x128, extractStridedSlice S1024x128 ![0, 128] w slices_S1024x1984_S1024x128_0_128⟩,
    ⟨S1024x256, extractStridedSlice S1024x256 ![0, 256] w slices_S1024x1984_S1024x256_0_256⟩,
    ⟨S1024x256, extractStridedSlice S1024x256 ![0, 512] w slices_S1024x1984_S1024x256_0_512⟩,
    ⟨S1024x32, extractStridedSlice S1024x32 ![0, 768] w slices_S1024x1984_S1024x32_0_768⟩,
    ⟨S1024x96, broadcastInDim S1024x96 ![] bcast_S_S1024x96 (constant S_ .f32 0x00000000#32)⟩,
    ⟨S1024x256, extractStridedSlice S1024x256 ![0, 1568] w slices_S1024x1984_S1024x256_0_1568⟩,
    ⟨S1024x128, extractStridedSlice S1024x128 ![0, 1824] w slices_S1024x1984_S1024x128_0_1824⟩,
    ⟨S1024x32, extractStridedSlice S1024x32 ![0, 1952] w slices_S1024x1984_S1024x32_0_1952⟩,
    ⟨S1024x96, broadcastInDim S1024x96 ![] bcast_S_S1024x96 (constant S_ .f32 0x00000000#32)⟩]
    concatenates_S1024x768_S1024x128_S1024x128_S1024x256_S1024x256_S1024x32_S1024x96_S1024x256_S1024x128_S1024x32_S1024x96_S1024x2176_d1) bitsLt_bf16_f32

/-- The last two operations of the host's line put the groups side by side and round them. -/
theorem joined_eq (F : Valuation τ sig (Elt Ideal)) (w : Vec Ideal S1024x1984 .f32)
    (h0 : F main_v0 = extractStridedSlice S1024x128 ![0, 0] w slices_S1024x1984_S1024x128_0_0)
    (h1 : F main_v1 = extractStridedSlice S1024x128 ![0, 128] w slices_S1024x1984_S1024x128_0_128)
    (h2 : F main_v2 = extractStridedSlice S1024x256 ![0, 256] w slices_S1024x1984_S1024x256_0_256)
    (h3 : F main_v3 = extractStridedSlice S1024x256 ![0, 512] w slices_S1024x1984_S1024x256_0_512)
    (h4 : F main_v4 = extractStridedSlice S1024x32 ![0, 768] w slices_S1024x1984_S1024x32_0_768)
    (h5 : F main_v5 = extractStridedSlice S1024x768 ![0, 800] w slices_S1024x1984_S1024x768_0_800)
    (h6 : F main_v6 = extractStridedSlice S1024x256 ![0, 1568] w slices_S1024x1984_S1024x256_0_1568)
    (h7 : F main_v7 = extractStridedSlice S1024x128 ![0, 1824] w slices_S1024x1984_S1024x128_0_1824)
    (h8 : F main_v8 = extractStridedSlice S1024x32 ![0, 1952] w slices_S1024x1984_S1024x32_0_1952)
    (h9 : F main_v9 = broadcastInDim S1024x96 ![] bcast_S_S1024x96 (constant (F := Ideal) S_ .f32 0x00000000#32)) :
    StableHlo.after (hostOps0.drop 11) F main_v11 = arranged w := by
  unfold arranged
  rw [← h0, ← h1, ← h2, ← h3, ← h4, ← h5, ← h6, ← h7, ← h8, ← h9]
  simp only [hostOps0, List.drop_succ_cons, List.drop_zero, StableHlo.after_cons, StableHlo.after_nil]
  rw [StableHlo.unary_result, StableHlo.nary_result]
  rfl

theorem W_eq : W m c = arranged (w m c) := by
  show StableHlo.after (hostOps0.drop 11) (StableHlo.after (hostOps0.take 11) fun b => m (c, b)) main_v11 = _
  apply joined_eq <;>
    (simp only [hostOps0, List.take_succ_cons, List.take_zero]
     after_results <;> rfl)

/-- An index of three coordinates is made of them. -/
theorem coords {n₀ n₁ n₂ : Nat} (i : Shape.Idx ⟨3, ![n₀, n₁, n₂]⟩) : ∃ b row l, i = ix3 b row l :=
  ⟨i 0, i 1, i 2, eq_ix3 i⟩

/-- Two columns of the weights with one number are the same. -/
theorem same (w : Vec Ideal S1024x1984 .f32) (d : Fin 1024) {s s' : Fin 1984} (h : s.val = s'.val) : w (ix2 d s) = w (ix2 d s') :=
  congrArg (fun s => w (ix2 d s)) (Fin.ext h)

theorem arranged_at (w : Vec Ideal S1024x1984 .f32) (d : Fin 1024) (k : Fin 2176) :
    arranged w (ix2 d k) = if h : k.val < 768 then w (ix2 d ⟨800 + k.val, by omega⟩)
      else if h : k.val < 1568 then w (ix2 d ⟨k.val - 768, by omega⟩) else if k.val < 1664 then 0
      else if h : k.val < 2080 then w (ix2 d ⟨k.val - 96, by omega⟩) else 0 := by
  pointwise [arranged]
  by_cases h : k.val < 768
  · rw [dif_pos h, dif_pos h]
  rw [dif_neg h, dif_neg h]
  by_cases h' : k.val < 1568
  · rw [dif_pos h']
    by_cases g0 : k.val - 768 < 128
    · rw [dif_pos g0]
    rw [dif_neg g0]
    by_cases g1 : k.val - 768 - 128 < 128
    · rw [dif_pos g1]
      exact same w d (by dsimp only; omega)
    rw [dif_neg g1]
    by_cases g2 : k.val - 768 - 128 - 128 < 256
    · rw [dif_pos g2]
      exact same w d (by dsimp only; omega)
    rw [dif_neg g2]
    by_cases g3 : k.val - 768 - 128 - 128 - 256 < 256
    · rw [dif_pos g3]
      exact same w d (by dsimp only; omega)
    rw [dif_neg g3]
    rw [dif_pos (by omega : k.val - 768 - 128 - 128 - 256 - 256 < 32)]
    exact same w d (by dsimp only; omega)
  rw [dif_neg h', dif_neg (by omega : ¬ k.val - 768 < 128), dif_neg (by omega : ¬ k.val - 768 - 128 < 128), dif_neg (by omega : ¬ k.val - 768 - 128 - 128 < 256), dif_neg (by omega : ¬ k.val - 768 - 128 - 128 - 256 < 256), dif_neg (by omega : ¬ k.val - 768 - 128 - 128 - 256 - 256 < 32)]
  by_cases h'' : k.val < 1664
  · rw [if_pos h'', dif_pos (by omega : k.val - 768 - 128 - 128 - 256 - 256 - 32 < 96)]
  rw [if_neg h'', dif_neg (by omega : ¬ k.val - 768 - 128 - 128 - 256 - 256 - 32 < 96)]
  by_cases h3 : k.val < 2080
  · rw [dif_pos h3]
    by_cases g6 : k.val - 768 - 128 - 128 - 256 - 256 - 32 - 96 < 256
    · rw [dif_pos g6]
      exact same w d (by dsimp only; omega)
    rw [dif_neg g6]
    by_cases g7 : k.val - 768 - 128 - 128 - 256 - 256 - 32 - 96 - 256 < 128
    · rw [dif_pos g7]
      exact same w d (by dsimp only; omega)
    rw [dif_neg g7]
    rw [dif_pos (by omega : k.val - 768 - 128 - 128 - 256 - 256 - 32 - 96 - 256 - 128 < 32)]
    exact same w d (by dsimp only; omega)
  rw [dif_neg h3, dif_neg (by omega : ¬ k.val - 768 - 128 - 128 - 256 - 256 - 32 - 96 < 256), dif_neg (by omega : ¬ k.val - 768 - 128 - 128 - 256 - 256 - 32 - 96 - 256 < 128), dif_neg (by omega : ¬ k.val - 768 - 128 - 128 - 256 - 256 - 32 - 96 - 256 - 128 < 32)]

/-- The reference's product of the same arguments. -/
abbrev products : FVec Ideal Cert.Reference4Ideal.S2x16384x1984 .f32 :=
  Cert.Reference4Ideal.Project.product (m ((c : Thread nD τ).loc main_arg0)) (m ((c : Thread nD τ).loc main_arg1))
    (m ((c : Thread nD τ).loc main_arg2)) (w m c)

variable (b : Fin 2) (row : Fin 16384)

/-- A product with a column of the arranged weights is one with that column of the weights, or zero. -/
theorem product_eq {k : Fin 2176} {s : Fin 1984} (h : ∀ d, arranged (w m c) (ix2 d k) = w m c (ix2 d s)) :
    product m c b row k = products m c (ix3 b row s) := by
  refine Eq.trans ?_ (Cert.Reference4Ideal.Project.product_at b row _ _ _ _ s).symm
  rw [product, W_eq]
  refine Finset.sum_congr rfl fun d _ => ?_
  rw [h]
  unfold X SH SC
  entry_read
  rfl
theorem product_zero {k : Fin 2176} (h : ∀ d, arranged (w m c) (ix2 d k) = 0) : product m c b row k = 0 := by
  rw [product, W_eq]
  exact Finset.sum_eq_zero fun d _ => by rw [h, mul_zero]

/-- The three stretches of filled columns, and the two of zeros. -/
theorem first (k : Fin 2176) (h : k.val < 768) : product m c b row k = products m c (ix3 b row ⟨800 + k.val, by omega⟩) :=
  product_eq m c b row fun d => by rw [arranged_at, dif_pos h]
theorem second (k : Fin 2176) (h : 768 ≤ k.val) (h' : k.val < 1568) :
    product m c b row k = products m c (ix3 b row ⟨k.val - 768, by omega⟩) :=
  product_eq m c b row fun d => by rw [arranged_at, dif_neg (by omega), dif_pos h']
theorem third (k : Fin 2176) (h : 1664 ≤ k.val) (h' : k.val < 2080) :
    product m c b row k = products m c (ix3 b row ⟨k.val - 96, by omega⟩) :=
  product_eq m c b row fun d => by rw [arranged_at, dif_neg (by omega), dif_neg (by omega), if_neg (by omega), dif_pos h']
theorem gap (k : Fin 2176) (h : 1568 ≤ k.val) (h' : k.val < 1664) : product m c b row k = 0 :=
  product_zero m c b row fun d => by rw [arranged_at, dif_neg (by omega), dif_neg (by omega), if_pos h']
theorem tail (k : Fin 2176) (h : 2080 ≤ k.val) : product m c b row k = 0 :=
  product_zero m c b row fun d => by rw [arranged_at, dif_neg (by omega), dif_neg (by omega), if_neg (by omega), dif_neg (by omega)]

open Cert.Reference4Ideal.Project in
theorem result4 : (dats m 0 c).arrAt 4 cfg0.N = channels (products m c) := by
  rw [final4]
  funext i
  obtain ⟨b, row, l, rfl⟩ := coords i
  show G4 m c b row l = _
  unfold G4
  exact (first m c b row _ l.isLt).trans (channels_at _ b row l).symm

open Cert.Reference4Ideal.Project in
theorem result5 : (dats m 0 c).arrAt 5 cfg0.N = queriesKeys (products m c) := by
  rw [final5]
  funext i
  obtain ⟨b, row, l, rfl⟩ := coords i
  show G5 m c b row l = _
  unfold G5
  refine ((second m c b row _ (by dsimp only; omega) (by dsimp only; omega)).trans ?_).trans (queriesKeys_at _ b row l).symm
  exact Cert.Reference4Ideal.Project.same _ b row (by dsimp only; omega)

open Cert.Reference4Ideal.Project in
theorem result6 : (dats m 0 c).arrAt 6 cfg0.N = valuesGates (products m c) := by
  rw [final6]
  funext i
  obtain ⟨b, row, l, rfl⟩ := coords i
  show G6 m c b row l = _
  unfold G6
  refine ((second m c b row _ (by dsimp only; omega) (by dsimp only; omega)).trans ?_).trans (valuesGates_at _ b row l).symm
  exact Cert.Reference4Ideal.Project.same _ b row (by dsimp only; omega)

open Cert.Reference4Ideal.Project in
theorem result7 : (dats m 0 c).arrAt 7 cfg0.N = decays (products m c) := by
  rw [final7]
  funext i
  obtain ⟨b, row, l, rfl⟩ := coords i
  show G7 m c b row l = _
  unfold G7
  refine Eq.trans ?_ (decays_at _ b row l).symm
  split
  · refine (second m c b row _ (by dsimp only; omega) (by dsimp only; omega)).trans ?_
    exact Cert.Reference4Ideal.Project.same _ b row (by dsimp only; omega)
  · exact gap m c b row _ (by dsimp only; omega) (by dsimp only; omega)

open Cert.Reference4Ideal.Project in
theorem result8 : (dats m 0 c).arrAt 8 cfg0.N = latents (products m c) := by
  rw [final8]
  funext i
  obtain ⟨b, row, l, rfl⟩ := coords i
  show G8 m c b row l = _
  unfold G8
  refine ((third m c b row _ (by dsimp only; omega) (by dsimp only; omega)).trans ?_).trans (latents_at _ b row l).symm
  exact Cert.Reference4Ideal.Project.same _ b row (by dsimp only; omega)

open Cert.Reference4Ideal.Project in
theorem result9 : (dats m 0 c).arrAt 9 cfg0.N = keysValues (products m c) := by
  rw [final9]
  funext i
  obtain ⟨b, row, l, rfl⟩ := coords i
  show G9 m c b row l = _
  unfold G9
  refine Eq.trans ?_ (keysValues_at _ b row l).symm
  split
  · refine (third m c b row _ (by dsimp only; omega) (by dsimp only; omega)).trans ?_
    exact Cert.Reference4Ideal.Project.same _ b row (by dsimp only; omega)
  · exact tail m c b row _ (by dsimp only; omega)

end Cert.Kernel4Ideal.Project
-- ==== Proof.MixRows.lean ====
/-
  Row functions of the output projection, on extended reals: the root mean square norm of a row and of one head of a row, the
  gated heads, and the row of mixed branches. A head's sum is also a sum over the whole row against a matrix of zeros and ones.
-/
module

public import proofs.«01_k».proof.Proof.Rows

@[expose] public section

set_option maxRecDepth 16384

noncomputable section

open Idealize.ShloMosaic Idealize.ShloMosaic.TcCoe Idealize.SL.Sem

namespace Cert.MixRows

/-- An entry of a row over the root of the mean square `s / k` and a constant, with a gain. -/
def rmsOf (y s k g : EReal) : EReal := y * Ideal.rsqrt (Ideal.div s k + Ideal.ofBits .f32 897988541#32) * g

/-- The sum of the squares of the head that lane `j` belongs to. -/
def headSq (o : Fin 256 → EReal) (j : Fin 256) : EReal :=
  ∑ e : Fin 64, o ⟨j.val / 64 * 64 + e.val, by omega⟩ * o ⟨j.val / 64 * 64 + e.val, by omega⟩

/-- A lane of the gated linear attention: its head's norm times the swish of the gate. -/
def gated (o g w : Fin 256 → EReal) (j : Fin 256) : EReal :=
  rmsOf (o j) (headSq o j) (Ideal.ofBits .f32 1115684864#32) (w j) * (g j * Ideal.logistic (g j))

/-- A lane of the norm of a row of 256. -/
def rms256 (y w : Fin 256 → EReal) (j : Fin 256) : EReal := rmsOf (y j) (∑ i, y i * y i) (Ideal.ofBits .f32 1132462080#32) (w j)

/-- A lane of the norm of a row of 512. -/
def rms512 (y w : Fin 512 → EReal) (j : Fin 512) : EReal := rmsOf (y j) (∑ i, y i * y i) (Ideal.ofBits .f32 1140850688#32) (w j)

/-- One entry of the mixed branches' product with a column of weights: the gated linear attention, the long convolution and the
    attention, each normed, against its own stretch of the column. -/
def mix (o g gg h gh : Fin 256 → EReal) (y gy : Fin 512 → EReal) (w : Fin 1024 → EReal) : EReal :=
  (∑ j : Fin 256, gated o g gg j * w ⟨j.val, by omega⟩) + (∑ j : Fin 256, rms256 h gh j * w ⟨256 + j.val, by omega⟩)
    + ∑ j : Fin 512, rms512 y gy j * w ⟨512 + j.val, by omega⟩

/-- A sum over 1024 lanes, as its stretches of 256, 256 and 512. -/
theorem sum_branches (f : Fin 1024 → EReal) : ∑ s, f s
    = (∑ j : Fin 256, f ⟨j.val, by omega⟩) + (∑ j : Fin 256, f ⟨256 + j.val, by omega⟩) + ∑ j : Fin 512, f ⟨512 + j.val, by omega⟩ := by
  have h : ∑ s, f s = ∑ s : Fin (256 + 256 + 512), f s := rfl
  rw [h, Fin.sum_univ_add, Fin.sum_univ_add]
  rfl

theorem ofBits_inv64 : Ideal.ofBits .f32 1015021568#32 = ((64⁻¹ : ℝ) : EReal) := by
  simp [Ideal.ofBits, Ideal.ieee, -EReal.coe_mul]; norm_num

theorem ofBits_64 : Ideal.ofBits .f32 1115684864#32 = ((64 : ℝ) : EReal) := by
  simp [Ideal.ofBits, Ideal.ieee, -EReal.coe_mul]; norm_num

/-- A sixty-fourth of a number is that number over 64. -/
theorem mul_inv64 (x : EReal) : x * Ideal.ofBits .f32 1015021568#32 = Ideal.div x (Ideal.ofBits .f32 1115684864#32) := by
  rw [ofBits_inv64, ofBits_64, Ideal.div, if_neg (by exact_mod_cast (by norm_num : (64 : ℝ) ≠ 0)), ← EReal.coe_inv]

/-- The sum over the row of the entries of one head. -/
theorem sum_head (f : Fin 256 → EReal) (j : Fin 256) :
    ∑ i : Fin 256, f i * (if i.val / 64 = j.val / 64 then 1 else 0) = ∑ e : Fin 64, f ⟨j.val / 64 * 64 + e.val, by omega⟩ := by
  rw [← Fin.sum_mul_add_fin 4 64 (fun i : Fin 256 => f i * (if i.val / 64 = j.val / 64 then 1 else 0)) rfl,
    Finset.sum_eq_single (⟨j.val / 64, by omega⟩ : Fin 4)]
  · refine Finset.sum_congr rfl fun e _ => ?_
    rw [if_pos (show (j.val / 64 * 64 + e.val) / 64 = j.val / 64 by omega), mul_one]
  · intro h _ hne
    refine Finset.sum_eq_zero fun e _ => ?_
    rw [if_neg (show ¬ (h.val * 64 + e.val) / 64 = j.val / 64 from fun he => hne (Fin.ext (show h.val = j.val / 64 by omega))), mul_zero]
  · exact fun h => absurd (Finset.mem_univ _) h

end Cert.MixRows
-- ==== Proof.MixPayload.lean ====
/-
  What one grid point of the output projection writes to its block of the result: the layer norm of the residual sum of the
  mixed branches, each branch normed and multiplied with its own rows of the weights.
-/
module

public import proofs.«01_k».proof.Proof.Gen.Kernel5Ideal.Value
public import proofs.«01_k».proof.Proof.MixRows

@[expose] public section

set_option maxRecDepth 16384

noncomputable section

open Idealize.ShloMosaic Idealize.ShloMosaic.TcCoe Idealize.SL.Sem

namespace Cert.Kernel5Ideal.Mix

open Cert.Kernel5Ideal Cert.Kernel5Ideal.Gen Cert.Kernel5Ideal.Value Cert.Rows Cert.MixRows

/-- A lane shifted right by six bits is its head. -/
theorem shift_head : ∀ i : Fin 256, IntOp.shrui ArithUnit.vector (BitVec.ofNat 32 i.val) 6#32 = BitVec.ofNat 32 (i.val / 64) := by decide +kernel

/-- Whether two heads are the same, as a word. -/
theorem same_head : ∀ a b : Fin 4, BitVec.setWidth 32 (IntOp.cmpi CmpIPredicate.eq (BitVec.ofNat 32 a.val) (BitVec.ofNat 32 b.val))
    = if a.val = b.val then 1#32 else 0#32 := by decide +kernel

theorem sitofp_one : (FloatOps.sitofp FTy.f32 (1#32) : Ideal .f32) = (1 : EReal) := by
  show (((1#32 : BitVec 32).toInt : ℝ) : EReal) = 1
  norm_num
theorem sitofp_zero : (FloatOps.sitofp FTy.f32 (0#32) : Ideal .f32) = (0 : EReal) := by
  show (((0#32 : BitVec 32).toInt : ℝ) : EReal) = 0
  norm_num

/-- An entry of the matrix of zeros and ones that sums the lanes of a head. -/
theorem head_entry (i j : Fin 256) : (FloatOps.sitofp FTy.f32 (BitVec.setWidth 32 (IntOp.cmpi CmpIPredicate.eq
      (IntOp.shrui ArithUnit.vector (BitVec.ofNat 32 i.val) 6#32) (IntOp.shrui ArithUnit.vector (BitVec.ofNat 32 j.val) 6#32))) : Ideal .f32)
    = (if i.val / 64 = j.val / 64 then 1 else 0 : EReal) := by
  rw [shift_head, shift_head, same_head ⟨i.val / 64, by omega⟩ ⟨j.val / 64, by omega⟩]
  by_cases h : i.val / 64 = j.val / 64
  · rw [if_pos h, if_pos h, sitofp_one]
  · rw [if_neg h, if_neg h, sitofp_zero]

variable (a b h v : Vec Ideal S1x512x256 .f32) (om : Vec Ideal S1x512x512 .f32) (x : Vec Ideal S1x512x1024 .f32) (ga : Vec Ideal S1x1x1024 .f32)
variable (gg gh : Vec Ideal S1x256 .f32) (gm : Vec Ideal S1x512 .f32) (w : Vec Ideal S1024x1024 .bf16) (lg lb : Vec Ideal S1x1024 .f32)
variable (r : Fin 512)

/-- The gated linear attention. -/
theorem pay2_at (j : Fin 256) : k0_pay2 (F := Ideal) a b v gg (ix2 r j)
    = gated (fun k => a (ix3 0 r k) + b (ix3 0 r k)) (fun k => v (ix3 0 r k)) (fun k => gg (ix2 0 k)) j := by
  pointwise [k0_pay2]
  simp only [head_entry]
  rw [sum_head (fun k => (a (ix3 0 r k) + b (ix3 0 r k)) * (a (ix3 0 r k) + b (ix3 0 r k))), mul_inv64]
  rfl

theorem pay3_at (j : Fin 256) : k0_pay3 (F := Ideal) h (ix2 r j) = h (ix3 0 r j) := by
  pointwise [k0_pay3]
theorem pay4_at (j : Fin 256) : k0_pay4 (F := Ideal) gh (ix2 0 j) = gh (ix2 0 j) := by
  pointwise [k0_pay4]
theorem pay5_at (j : Fin 256) : k0_pay5 (F := Ideal) h (ix2 r j) = h (ix3 0 r j) * h (ix3 0 r j) := by
  pointwise [k0_pay5, k0_pay3]

/-- The three branches' products, each with its own rows of the weights. -/
theorem pay6_at (p q s : FVec Ideal S512x256 .f32) (z : FVec Ideal S1x256 .f32) (w1 w2 : Vec Ideal S256x1024 .bf16) (w3 : Vec Ideal S512x1024 .bf16) (l : Fin 1024) :
    k0_pay6 (F := Ideal) p q z s om gm w1 w2 w3 (ix2 r l) = (∑ j : Fin 256, p (ix2 r j) * w1 (ix2 j l))
      + (∑ j : Fin 256, rmsOf (q (ix2 r j)) (∑ k : Fin 256, s (ix2 r k)) (Ideal.ofBits .f32 1132462080#32) (z (ix2 0 j)) * w2 (ix2 j l))
      + ∑ j : Fin 512, rms512 (fun k => om (ix3 0 r k)) (fun k => gm (ix2 0 k)) j * w3 (ix2 j l) := by
  pointwise [k0_pay6, rms512, rmsOf]

/-- One entry of a row's mixed branches against the weights. -/
def acc (l : Fin 1024) : EReal :=
  mix (fun k => a (ix3 0 r k) + b (ix3 0 r k)) (fun k => v (ix3 0 r k)) (fun k => gg (ix2 0 k))
    (fun k => h (ix3 0 r k)) (fun k => gh (ix2 0 k)) (fun k => om (ix3 0 r k)) (fun k => gm (ix2 0 k)) (fun d => w (ix2 d l))

/-- One entry of the result. -/
def row (l : Fin 1024) : EReal :=
  lnorm (resid (fun j => x (ix3 0 r j)) (fun j => ga (ix3 0 0 j)) (acc a b h v om gg gh gm w r)) (lg (ix2 0 l)) (lb (ix2 0 l)) l

theorem pay1_at (acc : FVec Ideal S512x1024 .f32) (l : Fin 1024) : k0_pay1 (F := Ideal) acc x ga lg lb (ix3 0 r l)
    = lnorm (resid (fun j => x (ix3 0 r j)) (fun j => ga (ix3 0 0 j)) (fun j => acc (ix2 r j))) (lg (ix2 0 l)) (lb (ix2 0 l)) l := by
  pointwise [k0_pay1]
  rfl

/-- What a grid point writes. -/
theorem out13_at (l : Fin 1024) : out0_13 a b v h om x ga gg gh gm w lg lb (ix3 0 r l) = row a b h v om x ga gg gh gm w lg lb r l := by
  unfold out0_13
  frame_out
  rw [pay1_at]
  simp only [pay6_at, pay2_at, pay3_at, pay4_at, pay5_at]
  pointwise
  rfl

end Cert.Kernel5Ideal.Mix
-- ==== Proof.MixValue.lean ====
/-
  The output projection's blocks as stretches of the arrays the region finds, and its result array after the run: the layer norm
  of the stream and the gated product of the mixed branches with the weights.
-/
module

public import proofs.«01_k».proof.Proof.MixPayload
public import Idealize.ShloMosaic.Lib.Pipeline.Covers

@[expose] public section

set_option maxRecDepth 16384

noncomputable section

open Idealize.ShloMosaic Idealize.ShloMosaic.TcCoe Idealize.SL.Sem

open Idealize.ShloMosaic.Pipeline (Dat)

namespace Cert.Kernel5Ideal.Mix

open Cert.Kernel5Ideal Cert.Kernel5Ideal.Gen Cert.Rows Cert.MixRows

variable (m : (ℓ : Loc nD τ sig) → Buf (Elt Ideal) ℓ) (c : Dev nD)

/-- The arrays as the region finds them. -/
abbrev OF : Vec Ideal S2x16384x256 .f32 := V m c main_arg0
abbrev OB : Vec Ideal S2x16384x256 .f32 := V m c main_arg1
abbrev VG : Vec Ideal S2x16384x512 .f32 := V m c main_arg2
abbrev HY : Vec Ideal S2x16384x256 .f32 := V m c main_arg3
abbrev OM : Vec Ideal S2x16384x512 .f32 := V m c main_arg4
abbrev X : Vec Ideal S2x16384x1024 .f32 := V m c main_arg5
abbrev GA : Vec Ideal S2x1x1024 .f32 := V m c main_arg6
abbrev GG : Vec Ideal S1x256 .f32 := V m c main_v3
abbrev GH : Vec Ideal S1x256 .f32 := V m c main_v4
abbrev GM : Vec Ideal S1x512 .f32 := V m c main_v5
abbrev W : Vec Ideal S1024x1024 .bf16 := V m c main_v6
abbrev LG : Vec Ideal S1x1024 .f32 := V m c main_v7
abbrev LB : Vec Ideal S1x1024 .f32 := V m c main_v8

/-- The index maps: batch and block of rows of a point; the gates are the second half of their array's columns. -/
theorem idx : ∀ t : Fin cfg0.N, win0_0.index t = ![t.val / 32, t.val % 32, 0] ∧ win0_1.index t = ![t.val / 32, t.val % 32, 0]
    ∧ win0_2.index t = ![t.val / 32, t.val % 32, 1] ∧ win0_3.index t = ![t.val / 32, t.val % 32, 0]
    ∧ win0_4.index t = ![t.val / 32, t.val % 32, 0] ∧ win0_5.index t = ![t.val / 32, t.val % 32, 0]
    ∧ win0_6.index t = ![t.val / 32, 0, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![t.val / 32, t.val % 32, 0] ∧ t.val < 64 :=
  (by decide +kernel : ∀ t : Fin grid0.N, _)

variable (t : Fin cfg0.N) (r : Fin 512) (l : Fin 1024) (j : Fin 256) (k : Fin 512)

theorem lt_pts : t.val < 64 := (idx t).2.2.2.2.2.2.2.2.2.2.2.2.2.2

/-- The batch of a point and the array row of its block's row `r`. -/
abbrev bOf : Fin 2 := ⟨t.val / 32, by have := lt_pts t; omega⟩
abbrev qOf : Fin 16384 := ⟨512 * (t.val % 32) + r.val, by omega⟩

theorem of_at : (iblk m c 0 t : Vec Ideal S1x512x256 .f32) (ix3 0 r j) = OF m c (ix3 (bOf t) (qOf t r) j) := by
  have hi := idx t
  blk_point [iblk, idx t]
theorem ob_at : (iblk m c 1 t : Vec Ideal S1x512x256 .f32) (ix3 0 r j) = OB m c (ix3 (bOf t) (qOf t r) j) := by
  have hi := idx t
  blk_point [iblk, idx t]
theorem vg_at : (iblk m c 2 t : Vec Ideal S1x512x256 .f32) (ix3 0 r j) = VG m c (ix3 (bOf t) (qOf t r) ⟨256 + j.val, by omega⟩) := by
  have hi := idx t
  blk_point [iblk, idx t]
theorem hy_at : (iblk m c 3 t : Vec Ideal S1x512x256 .f32) (ix3 0 r j) = HY m c (ix3 (bOf t) (qOf t r) j) := by
  have hi := idx t
  blk_point [iblk, idx t]
theorem om_at : (iblk m c 4 t : Vec Ideal S1x512x512 .f32) (ix3 0 r k) = OM m c (ix3 (bOf t) (qOf t r) k) := by
  have hi := idx t
  blk_point [iblk, idx t]
theorem x_at : (iblk m c 5 t : Vec Ideal S1x512x1024 .f32) (ix3 0 r l) = X m c (ix3 (bOf t) (qOf t r) l) := by
  have hi := idx t
  blk_point [iblk, idx t]
theorem ga_at : (iblk m c 6 t : Vec Ideal S1x1x1024 .f32) (ix3 0 0 l) = GA m c (ix3 (bOf t) 0 l) := by
  have hi := idx t
  blk_point [iblk, idx t]
theorem gg_at : (iblk m c 7 t : Vec Ideal S1x256 .f32) (ix2 0 j) = GG m c (ix2 0 j) := by
  have hi := idx t
  blk_point [iblk, idx t]
theorem gh_at : (iblk m c 8 t : Vec Ideal S1x256 .f32) (ix2 0 j) = GH m c (ix2 0 j) := by
  have hi := idx t
  blk_point [iblk, idx t]
theorem gm_at : (iblk m c 9 t : Vec Ideal S1x512 .f32) (ix2 0 k) = GM m c (ix2 0 k) := by
  have hi := idx t
  blk_point [iblk, idx t]
theorem w_at (d : Fin 1024) : (iblk m c 10 t : Vec Ideal S1024x1024 .bf16) (ix2 d l) = W m c (ix2 d l) := by
  have hi := idx t
  blk_point [iblk, idx t]
theorem lg_at : (iblk m c 11 t : Vec Ideal S1x1024 .f32) (ix2 0 l) = LG m c (ix2 0 l) := by
  have hi := idx t
  blk_point [iblk, idx t]
theorem lb_at : (iblk m c 12 t : Vec Ideal S1x1024 .f32) (ix2 0 l) = LB m c (ix2 0 l) := by
  have hi := idx t
  blk_point [iblk, idx t]

/-- One entry of the mixed branches' product with the weights. -/
def total (b : Fin 2) (row : Fin 16384) (l : Fin 1024) : EReal :=
  mix (fun j => OF m c (ix3 b row j) + OB m c (ix3 b row j)) (fun j => VG m c (ix3 b row ⟨256 + j.val, by omega⟩)) (fun j => GG m c (ix2 0 j))
    (fun j => HY m c (ix3 b row j)) (fun j => GH m c (ix2 0 j)) (fun k => OM m c (ix3 b row k)) (fun k => GM m c (ix2 0 k)) (fun d => W m c (ix2 d l))

/-- The result, by its formula. -/
def G (b : Fin 2) (row : Fin 16384) (l : Fin 1024) : EReal :=
  lnorm (resid (fun j => X m c (ix3 b row j)) (fun j => GA m c (ix3 b 0 j)) (total m c b row)) (LG m c (ix2 0 l)) (LB m c (ix2 0 l)) l

theorem point_eq : row (iblk m c 0 t) (iblk m c 1 t) (iblk m c 3 t) (iblk m c 2 t) (iblk m c 4 t) (iblk m c 5 t) (iblk m c 6 t) (iblk m c 7 t)
    (iblk m c 8 t) (iblk m c 9 t) (iblk m c 10 t) (iblk m c 11 t) (iblk m c 12 t) r l = G m c (bOf t) (qOf t r) l := by
  unfold row G total acc
  simp only [of_at, ob_at, vg_at, hy_at, om_at, x_at, ga_at, gg_at, gh_at, gm_at, w_at, lg_at, lb_at]

theorem final : (dats m 0 c).arrAt 13 cfg0.N = fun i : S2x16384x1024.Idx => G m c (i 0) (i 1) (i 2) := by
  refine (dats m 0 c).arrAt_eq_of_covers 13 _ (by decide +kernel) fun t _ y => ?_
  have hi := idx t
  blk_simp
  rw [after0_13]
  obtain ⟨u, r, l, rfl⟩ : ∃ u r l, y = (ix3 u r l : S1x512x1024.Idx) := ⟨y 0, y 1, y 2, by funext a; fin_cases a <;> rfl⟩
  obtain rfl : u = 0 := Fin.fin_one_eq_zero u
  have hv := hi.2.2.2.2.2.2.2.2.2.2.2.2.2.1
  have e0 : (win0_13.blk t).view.emb (ix3 0 r l) 0 = bOf t := Fin.ext (show _ = t.val / 32 by blk_simp [hv]; omega)
  have e1 : (win0_13.blk t).view.emb (ix3 0 r l) 1 = qOf t r := Fin.ext (show _ = 512 * (t.val % 32) + r.val by blk_simp [hv]; omega)
  have e2 : (win0_13.blk t).view.emb (ix3 0 r l) 2 = l := Fin.ext (by blk_simp [hv])
  refine Eq.trans ?_ (congr (congr (congrArg (G m c) e0.symm) e1.symm) e2.symm)
  exact (out13_at ..).trans (point_eq ..)

end Cert.Kernel5Ideal.Mix
-- ==== Proof.MixReference.lean ====
/-
  The output projection's reference, part by part, each read at an index: the gated heads of the linear attention, the norms of
  the other two branches, the branches side by side against the weights, the residual sum and the layer norm.
-/
module

public import proofs.«01_k».proof.Proof.Gen.Reference5Ideal
public import proofs.«01_k».proof.Proof.MixRows

@[expose] public section

set_option maxRecDepth 16384

noncomputable section

open Idealize.ShloMosaic Idealize.ShloMosaic.TcCoe Idealize.SL.Sem

namespace Cert.Reference5Ideal.Mix

open Cert.Reference5Ideal Cert.Reference5Ideal.Gen Cert.Rows Cert.MixRows
open Cert.Reference5Ideal.Facts

/-- The sum of the two directions of the linear attention, by heads. -/
def heads (p q : FVec Ideal S2x16384x256 .f32) : FVec Ideal S2x16384x4x64 .f32 :=
  shapeCast _ (addf p q) shapeCasts_S2x16384x256_S2x16384x4x64

/-- The gates, which lie beside the values, by heads. -/
def gates (v : FVec Ideal S2x16384x512 .f32) : FVec Ideal S2x16384x4x64 .f32 :=
  shapeCast _ (extractStridedSlice S2x16384x256 ![0, 0, 256] v slices_S2x16384x512_S2x16384x256_0_0_256) shapeCasts_S2x16384x256_S2x16384x4x64

/-- The norm of every head. -/
def headNorm (o : FVec Ideal S2x16384x4x64 .f32) (w : FVec Ideal S64 .f32) : FVec Ideal S2x16384x4x64 .f32 :=
  mulf (mulf o (broadcastInDim S2x16384x4x64 ![0, 1, 2, 3] bcast_S2x16384x4x1_S2x16384x4x64_0_1_2_3
    (Host.rsqrt (addf (Host.divf (broadcastInDim S2x16384x4x1 ![0, 1, 2] bcast_S2x16384x4_S2x16384x4x1_0_1_2
        (Host.reduceAdd (mulf o o) (constant S_ .f32 0x00000000#32) reducesTo_S2x16384x4x64_S2x16384x4_d3 h_S_))
      (broadcastInDim S2x16384x4x1 ![] bcast_S_S2x16384x4x1 (constant S_ .f32 0x42800000#32)))
      (broadcastInDim S2x16384x4x1 ![] bcast_S_S2x16384x4x1 (constant S_ .f32 0x358637BD#32))))))
    (broadcastInDim S2x16384x4x64 ![0, 1, 2, 3] bcast_S1x1x1x64_S2x16384x4x64_0_1_2_3 (broadcastInDim S1x1x1x64 ![3] bcast_S64_S1x1x1x64_3 w))

/-- The swish of the gates. -/
def swish (g : FVec Ideal S2x16384x4x64 .f32) : FVec Ideal S2x16384x4x64 .f32 :=
  mulf g (Host.divf (broadcastInDim S2x16384x4x64 ![] bcast_S_S2x16384x4x64 (constant S_ .f32 0x3F800000#32))
    (addf (broadcastInDim S2x16384x4x64 ![] bcast_S_S2x16384x4x64 (constant S_ .f32 0x3F800000#32)) (Host.exp (Host.negf g))))

/-- The gated linear attention, heads side by side again. -/
def linear (p q : FVec Ideal S2x16384x256 .f32) (v : FVec Ideal S2x16384x512 .f32) (w : FVec Ideal S64 .f32) : FVec Ideal S2x16384x256 .f32 :=
  shapeCast _ (mulf (headNorm (heads p q) w) (swish (gates v))) shapeCasts_S2x16384x4x64_S2x16384x256

/-- The norm of the long convolution's rows. -/
def norm256 (y : FVec Ideal S2x16384x256 .f32) (w : FVec Ideal S256 .f32) : FVec Ideal S2x16384x256 .f32 :=
  mulf (mulf y (broadcastInDim S2x16384x256 ![0, 1, 2] bcast_S2x16384x1_S2x16384x256_0_1_2
    (Host.rsqrt (addf (Host.divf (broadcastInDim S2x16384x1 ![0, 1] bcast_S2x16384_S2x16384x1_0_1
        (Host.reduceAdd (mulf y y) (constant S_ .f32 0x00000000#32) reducesTo_S2x16384x256_S2x16384_d2 h_S_))
      (broadcastInDim S2x16384x1 ![] bcast_S_S2x16384x1 (constant S_ .f32 0x43800000#32)))
      (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 w))

/-- The norm of the attention's rows. -/
def norm512 (y : FVec Ideal S2x16384x512 .f32) (w : FVec Ideal S512 .f32) : FVec Ideal S2x16384x512 .f32 :=
  mulf (mulf y (broadcastInDim S2x16384x512 ![0, 1, 2] bcast_S2x16384x1_S2x16384x512_0_1_2
    (Host.rsqrt (addf (Host.divf (broadcastInDim S2x16384x1 ![0, 1] bcast_S2x16384_S2x16384x1_0_1
        (Host.reduceAdd (mulf y y) (constant S_ .f32 0x00000000#32) reducesTo_S2x16384x512_S2x16384_d2 h_S_))
      (broadcastInDim S2x16384x1 ![] bcast_S_S2x16384x1 (constant S_ .f32 0x44000000#32)))
      (broadcastInDim S2x16384x1 ![] bcast_S_S2x16384x1 (constant S_ .f32 0x358637BD#32))))))
    (broadcastInDim S2x16384x512 ![0, 1, 2] bcast_S1x1x512_S2x16384x512_0_1_2 (broadcastInDim S1x1x512 ![2] bcast_S512_S1x1x512_2 w))

/-- The three branches side by side. -/
def beside (p q : FVec Ideal S2x16384x256 .f32) (s : FVec Ideal S2x16384x512 .f32) : FVec Ideal S2x16384x1024 .f32 :=
  concatenate S2x16384x1024 2 [⟨S2x16384x256, p⟩, ⟨S2x16384x256, q⟩, ⟨S2x16384x512, s⟩]
    concatenates_S2x16384x256_S2x16384x256_S2x16384x512_S2x16384x1024_d2

/-- The branches against the weights. -/
def output (y : FVec Ideal S2x16384x1024 .f32) (w : FVec Ideal S1024x1024 .f32) : FVec Ideal S2x16384x1024 .f32 :=
  Host.dotGeneral dot_S2x16384x1024_S1024x1024_S2x16384x1024_2_0_01_1_n_n none y w

/-- The stream scaled by a constant, and the gated update `o`. -/
def joined (x : FVec Ideal S2x16384x1024 .f32) (ga : FVec Ideal S2x1x1024 .f32) (o : FVec Ideal S2x16384x1024 .f32) : FVec Ideal S2x16384x1024 .f32 :=
  addf (mulf (broadcastInDim S2x16384x1024 ![] bcast_S_S2x16384x1024 (constant S_ .f32 0x3FB504F3#32)) x)
    (mulf (broadcastInDim S2x16384x1024 ![0, 1, 2] bcast_S2x1x1024_S2x16384x1024_0_1_2 ga) o)

/-- The mean of every row, kept as a column. -/
def rowMean (y : FVec Ideal S2x16384x1024 .f32) : FVec Ideal S2x16384x1 .f32 :=
  Host.divf (broadcastInDim S2x16384x1 ![0, 1] bcast_S2x16384_S2x16384x1_0_1
    (Host.reduceAdd y (constant S_ .f32 0x00000000#32) reducesTo_S2x16384x1024_S2x16384_d2 h_S_))
    (broadcastInDim S2x16384x1 ![] bcast_S_S2x16384x1 (constant S_ .f32 0x44800000#32))

/-- Every row less a column. -/
def centred (y : FVec Ideal S2x16384x1024 .f32) (u : FVec Ideal S2x16384x1 .f32) : FVec Ideal S2x16384x1024 .f32 :=
  subf y (broadcastInDim S2x16384x1024 ![0, 1, 2] bcast_S2x16384x1_S2x16384x1024_0_1_2 u)

/-- The centred rows `d` over the root of the mean square `v` and a constant, with weights and biases. -/
def scaled (d : FVec Ideal S2x16384x1024 .f32) (v : FVec Ideal S2x16384x1 .f32) (g b : FVec Ideal S1024 .f32) : FVec Ideal S2x16384x1024 .f32 :=
  addf (mulf (mulf d (broadcastInDim S2x16384x1024 ![0, 1, 2] bcast_S2x16384x1_S2x16384x1024_0_1_2
      (Host.rsqrt (addf v (broadcastInDim S2x16384x1 ![] bcast_S_S2x16384x1 (constant S_ .f32 0x3727C5AC#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S1x1x1024_S2x16384x1024_0_1_2 (broadcastInDim S1x1x1024 ![2] bcast_S1024_S1x1x1024_2 b))

variable (b : Fin 2) (i : Fin 16384) (l : Fin 1024)

theorem heads_at (p q : FVec Ideal S2x16384x256 .f32) (h : Fin 4) (e : Fin 64) :
    heads p q (ix4 b i h e) = p (ix3 b i ⟨h.val * 64 + e.val, by omega⟩) + q (ix3 b i ⟨h.val * 64 + e.val, by omega⟩) := by
  pointwise [heads]

theorem gates_at (v : FVec Ideal S2x16384x512 .f32) (h : Fin 4) (e : Fin 64) :
    gates v (ix4 b i h e) = v (ix3 b i ⟨256 + (h.val * 64 + e.val), by omega⟩) := by
  pointwise [gates]

theorem headNorm_at (o : FVec Ideal S2x16384x4x64 .f32) (w : FVec Ideal S64 .f32) (h : Fin 4) (e : Fin 64) :
    headNorm o w (ix4 b i h e)
      = rmsOf (o (ix4 b i h e)) (∑ d : Fin 64, o (ix4 b i h d) * o (ix4 b i h d)) (Ideal.ofBits .f32 1115684864#32) (w (ix1 e)) := by
  pointwise [headNorm, rmsOf]

theorem swish_at (g : FVec Ideal S2x16384x4x64 .f32) (h : Fin 4) (e : Fin 64) :
    swish g (ix4 b i h e) = g (ix4 b i h e) * Ideal.logistic (g (ix4 b i h e)) := by
  pointwise [swish, Ideal.logistic]

theorem merge_at (t : FVec Ideal S2x16384x4x64 .f32) (j : Fin 256) :
    (shapeCast _ t shapeCasts_S2x16384x4x64_S2x16384x256 : FVec Ideal S2x16384x256 .f32) (ix3 b i j)
      = t (ix4 b i ⟨j.val / 64, by omega⟩ ⟨j.val % 64, by omega⟩) := by
  pointwise

theorem prod_at (s t : FVec Ideal S2x16384x4x64 .f32) (h : Fin 4) (e : Fin 64) :
    mulf s t (ix4 b i h e) = s (ix4 b i h e) * t (ix4 b i h e) := by
  pointwise

theorem linear_at (p q : FVec Ideal S2x16384x256 .f32) (v : FVec Ideal S2x16384x512 .f32) (w : FVec Ideal S64 .f32) (j : Fin 256) :
    linear p q v w (ix3 b i j) = gated (fun k => p (ix3 b i k) + q (ix3 b i k)) (fun k => v (ix3 b i ⟨256 + k.val, by omega⟩)) (fun k => w (ix1 ⟨k.val % 64, by omega⟩)) j := by
  have hj : (⟨j.val / 64 * 64 + j.val % 64, by omega⟩ : Fin 256) = j := Fin.ext (by show j.val / 64 * 64 + j.val % 64 = j.val; omega)
  have hk : (⟨256 + (j.val / 64 * 64 + j.val % 64), by omega⟩ : Fin 512) = ⟨256 + j.val, by omega⟩ :=
    Fin.ext (by show 256 + (j.val / 64 * 64 + j.val % 64) = 256 + j.val; omega)
  rw [linear, merge_at, prod_at, headNorm_at, swish_at, gates_at]
  simp only [heads_at]
  rw [hj, hk]
  rfl

theorem norm256_at (y : FVec Ideal S2x16384x256 .f32) (w : FVec Ideal S256 .f32) (j : Fin 256) :
    norm256 y w (ix3 b i j) = rms256 (fun k => y (ix3 b i k)) (fun k => w (ix1 k)) j := by
  pointwise [norm256, rms256, rmsOf]

theorem norm512_at (y : FVec Ideal S2x16384x512 .f32) (w : FVec Ideal S512 .f32) (j : Fin 512) :
    norm512 y w (ix3 b i j) = rms512 (fun k => y (ix3 b i k)) (fun k => w (ix1 k)) j := by
  pointwise [norm512, rms512, rmsOf]

section
variable (p q : FVec Ideal S2x16384x256 .f32) (s : FVec Ideal S2x16384x512 .f32)

theorem beside_first (j : Fin 256) : beside p q s (ix3 b i ⟨j.val, by omega⟩) = p (ix3 b i j) := by
  pointwise [beside]
theorem beside_second (j : Fin 256) : beside p q s (ix3 b i ⟨256 + j.val, by omega⟩) = q (ix3 b i j) := by
  pointwise [beside]
theorem beside_third (j : Fin 512) : beside p q s (ix3 b i ⟨512 + j.val, by omega⟩) = s (ix3 b i j) := by
  pointwise [beside]
  rw [dif_neg (by omega), dif_neg (by omega)]
  exact congrArg (fun k => s (ix3 b i k)) (Fin.ext (show 512 + j.val - 256 - 256 = j.val by omega))

theorem output_at (w : FVec Ideal S1024x1024 .f32) : output (beside p q s) w (ix3 b i l)
    = (∑ j : Fin 256, p (ix3 b i j) * w (ix2 ⟨j.val, by omega⟩ l)) + (∑ j : Fin 256, q (ix3 b i j) * w (ix2 ⟨256 + j.val, by omega⟩ l))
      + ∑ j : Fin 512, s (ix3 b i j) * w (ix2 ⟨512 + j.val, by omega⟩ l) := by
  have h : output (beside p q s) w (ix3 b i l) = ∑ d : Fin 1024, beside p q s (ix3 b i d) * w (ix2 d l) := by
    pointwise [output]
  rw [h, sum_branches]
  simp only [beside_first, beside_second, beside_third]
end

theorem joined_at (x : FVec Ideal S2x16384x1024 .f32) (ga : FVec Ideal S2x1x1024 .f32) (o : FVec Ideal S2x16384x1024 .f32) :
    joined x ga o (ix3 b i l) = resid (fun j => x (ix3 b i j)) (fun j => ga (ix3 b 0 j)) (fun j => o (ix3 b i j)) l := by
  pointwise [joined, resid]

theorem rowMean_at (y : FVec Ideal S2x16384x1024 .f32) : rowMean y (ix3 b i 0) = mean (fun j => y (ix3 b i j)) := by
  pointwise [rowMean, mean]

theorem centred_at (y : FVec Ideal S2x16384x1024 .f32) (u : FVec Ideal S2x16384x1 .f32) :
    centred y u (ix3 b i l) = y (ix3 b i l) - u (ix3 b i 0) := by
  pointwise [centred]

theorem scaled_at (d : FVec Ideal S2x16384x1024 .f32) (v : FVec Ideal S2x16384x1 .f32) (g a : FVec Ideal S1024 .f32) :
    scaled d v g a (ix3 b i l) = d (ix3 b i l) * Ideal.rsqrt (v (ix3 b i 0) + Ideal.ofBits .f32 925353388#32) * g (ix1 l) + a (ix1 l) := by
  pointwise [scaled]

/-- The layer norm of every row. -/
def normed (y : FVec Ideal S2x16384x1024 .f32) (g a : FVec Ideal S1024 .f32) : FVec Ideal S2x16384x1024 .f32 :=
  scaled (centred y (rowMean y)) (rowMean (mulf (centred y (rowMean y)) (centred y (rowMean y)))) g a

theorem sq_at (d : FVec Ideal S2x16384x1024 .f32) : mulf d d (ix3 b i l) = d (ix3 b i l) * d (ix3 b i l) := by
  pointwise

theorem normed_at (y : FVec Ideal S2x16384x1024 .f32) (g a : FVec Ideal S1024 .f32) :
    normed y g a (ix3 b i l) = lnorm (fun j => y (ix3 b i j)) (g (ix1 l)) (a (ix1 l)) l := by
  rw [normed, scaled_at, rowMean_at]
  simp only [sq_at, centred_at, rowMean_at]
  rfl

variable (of ob hy : FVec Ideal S2x16384x256 .f32) (vg om : FVec Ideal S2x16384x512 .f32) (x : FVec Ideal S2x16384x1024 .f32)
variable (ga : FVec Ideal S2x1x1024 .f32) (gg : FVec Ideal S64 .f32) (gh : FVec Ideal S256 .f32) (gm : FVec Ideal S512 .f32)
variable (w : FVec Ideal S1024x1024 .f32) (g a : FVec Ideal S1024 .f32)

/-- The update, before its gate. -/
def update : FVec Ideal S2x16384x1024 .f32 := output (beside (linear of ob vg gg) (norm256 hy gh) (norm512 om gm)) w

/-- The whole reference. -/
def whole : FVec Ideal S2x16384x1024 .f32 := normed (joined x ga (update of ob hy vg om gg gh gm w)) g a

theorem update_at : update of ob hy vg om gg gh gm w (ix3 b i l)
    = mix (fun k => of (ix3 b i k) + ob (ix3 b i k)) (fun k => vg (ix3 b i ⟨256 + k.val, by omega⟩)) (fun k => gg (ix1 ⟨k.val % 64, by omega⟩))
      (fun k => hy (ix3 b i k)) (fun k => gh (ix1 k)) (fun k => om (ix3 b i k)) (fun k => gm (ix1 k)) (fun d => w (ix2 d l)) := by
  rw [update, output_at]
  simp only [linear_at, norm256_at, norm512_at]
  rfl

theorem whole_at : whole of ob hy vg om x ga gg gh gm w g a (ix3 b i l)
    = lnorm (resid (fun j => x (ix3 b i j)) (fun j => ga (ix3 b 0 j)) (fun j => update of ob hy vg om gg gh gm w (ix3 b i j))) (g (ix1 l)) (a (ix1 l)) l := by
  rw [whole, normed_at]
  simp only [joined_at]

end Cert.Reference5Ideal.Mix
-- ==== Proof.MixEquation.lean ====
/-
  The output projection kernel's result array is the reference's composed term of the same arguments. No condition is needed:
  both norm the same heads and rows and add the same products in the extended reals.
-/
module

public import proofs.«01_k».proof.Proof.MixValue
public import proofs.«01_k».proof.Proof.MixReference

@[expose] public section

set_option maxRecDepth 16384

noncomputable section

open Idealize.ShloMosaic Idealize.ShloMosaic.TcCoe Idealize.SL.Sem

namespace Cert.Kernel5Ideal.Mix

open Cert.Kernel5Ideal Cert.Kernel5Ideal.Gen Cert.Rows Cert.MixRows

variable (m : (ℓ : Loc nD τ sig) → Buf (Elt Ideal) ℓ) (c : Dev nD)

/-- The arguments that the host prepares for the kernel: gains as rows, the heads' gain once per head, weights narrowed. -/
abbrev gg : Vec Ideal S64 .f32 := m ((c : Thread nD τ).loc main_arg7)
abbrev gh : Vec Ideal S256 .f32 := m ((c : Thread nD τ).loc main_arg8)
abbrev gm : Vec Ideal S512 .f32 := m ((c : Thread nD τ).loc main_arg9)
abbrev w : Vec Ideal S1024x1024 .f32 := m ((c : Thread nD τ).loc main_arg10)
abbrev lg : Vec Ideal S1024 .f32 := m ((c : Thread nD τ).loc main_arg11)
abbrev lb : Vec Ideal S1024 .f32 := m ((c : Thread nD τ).loc main_arg12)

theorem W_eq : W m c = w m c := by
  unfold W
  entry_read
  rfl
theorem GG_at (j : Fin 256) : GG m c (ix2 0 j) = gg m c (ix1 ⟨j.val % 64, by omega⟩) := by
  unfold GG
  entry_read
  pointwise
theorem GH_at (j : Fin 256) : GH m c (ix2 0 j) = gh m c (ix1 j) := by
  unfold GH
  entry_read
  pointwise
theorem GM_at (j : Fin 512) : GM m c (ix2 0 j) = gm m c (ix1 j) := by
  unfold GM
  entry_read
  pointwise
theorem LG_at (l : Fin 1024) : LG m c (ix2 0 l) = lg m c (ix1 l) := by
  unfold LG
  entry_read
  pointwise
theorem LB_at (l : Fin 1024) : LB m c (ix2 0 l) = lb m c (ix1 l) := by
  unfold LB
  entry_read
  pointwise

/-- The mixed branches' product with the weights is the reference's update. -/
theorem total_eq (b : Fin 2) (row : Fin 16384) (l : Fin 1024) : total m c b row l
    = Cert.Reference5Ideal.Mix.update (OF m c) (OB m c) (HY m c) (VG m c) (OM m c) (gg m c) (gh m c) (gm m c) (w m c) (ix3 b row l) := by
  refine Eq.trans ?_ (Cert.Reference5Ideal.Mix.update_at ..).symm
  rw [total, funext (GG_at m c), funext (GH_at m c), funext (GM_at m c), W_eq]

/-- The kernel's result array is the reference's composed term of the same arguments. -/
theorem result : (dats m 0 c).arrAt 13 cfg0.N = Cert.Reference5Ideal.Mix.whole (OF m c) (OB m c) (HY m c) (VG m c) (OM m c) (X m c) (GA m c)
    (gg m c) (gh m c) (gm m c) (w m c) (lg m c) (lb m c) := by
  rw [final]
  funext i
  obtain ⟨b, row, l, rfl⟩ : ∃ b row l, i = (ix3 b row l : S2x16384x1024.Idx) := ⟨i 0, i 1, i 2, by funext a; fin_cases a <;> rfl⟩
  refine Eq.trans ?_ (Cert.Reference5Ideal.Mix.whole_at ..).symm
  show G m c b row l = _
  rw [G, LG_at, LB_at]
  exact congrArg (fun T => lnorm (resid (fun j => X m c (ix3 b row j)) (fun j => GA m c (ix3 b 0 j)) T) (lg m c (ix1 l)) (lb m c (ix1 l)) l)
    (funext fun j => total_eq m c b row j)

end Cert.Kernel5Ideal.Mix
-- ==== Proof.lean ====
/-
  The claims about five calls, the attention, the experts, the dense feed-forward, the combined input projection and the output
  projection: for each the frames of its three programs, its idealization, and the equality of the kernel and its reference over
  the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.ReferenceIdeal.Run
public import proofs.«01_k».proof.Proof.FlashEquation
public import proofs.«01_k».proof.Proof.MoeEquation
public import proofs.«01_k».proof.Proof.DenseEquation
public import proofs.«01_k».proof.Proof.ProjectEquation
public import proofs.«01_k».proof.Proof.MixEquation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The shapes the precondition joins and spreads fit. -/
theorem preFacts : Cert.Pre_finite_scores.Facts := ⟨by decide, by decide, by decide⟩

/-- The shapes the condition on the gates slices and spreads fit. -/
theorem gateFacts : Cert.Pre_gates_ok.Facts := ⟨by decide, by decide⟩

/-- The attention reference leaves its arguments as they were, and it has no semaphore. -/
theorem flash_reference_frame : Cert.quiescent_ReferenceIdeal (hReferenceIdeal := Cert.ReferenceIdeal.Gen.facts) := by
  intro m g _
  exact (θ_run Cert.ReferenceIdeal.defs _ _).mono (fun r h => And.intro (fun c => (h c).2) (sem_eq_zero_of_no_sems (by decide) r.2))
    (Cert.ReferenceIdeal.Value.run (F := Ideal) m g)

/-- The kernel and the reference of the attention end with equal results whenever queries and keys are finite. -/
theorem flash_algebraic (hPre : Cert.Pre_finite_scores.Facts) : Cert.algebraic_KernelIdeal_ReferenceIdeal_pre_finite_scores
    (hKernelIdeal := Cert.KernelIdeal.Gen.facts) (hReferenceIdeal := Cert.ReferenceIdeal.Gen.facts) (hPre_finite_scores := hPre) := by
  intro m g m' g' hpre hag
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ?_) (Cert.ReferenceIdeal.Value.run m' g')
  obtain ⟨e0, e1, e2, e3, e4⟩ := hag c
  refine ⟨(h c).1.trans ?_, (h c).2⟩
  rw [e0, e1, e2, e3, e4]
  refine Eq.trans ?_ (Cert.KernelIdeal.Flash.result m c fun b a row => Cert.KernelIdeal.Flash.scores_real m c (hpre c) b a row).symm
  rw [Cert.KernelIdeal.Flash.K_eq, Cert.KernelIdeal.Flash.W_eq]
  rfl

/-- The experts' reference leaves its arguments as they were, and it has no semaphore. -/
theorem moe_reference_frame : Cert.quiescent_Reference2Ideal (hReference2Ideal := Cert.Reference2Ideal.Gen.facts) := by
  intro m g _
  exact (θ_run Cert.Reference2Ideal.defs _ _).mono (fun r h => And.intro (fun c => (h c).2) (sem_eq_zero_of_no_sems (by decide) r.2))
    (Cert.Reference2Ideal.Value.run (F := Ideal) m g)

/-- The kernel and the reference of the experts end with equal results whenever the gates are nonnegative and finite. -/
theorem moe_algebraic (hPre : Cert.Pre_gates_ok.Facts) : Cert.algebraic_Kernel2Ideal_Reference2Ideal_pre_gates_ok
    (hKernel2Ideal := Cert.Kernel2Ideal.Gen.facts) (hReference2Ideal := Cert.Reference2Ideal.Gen.facts) (hPre_gates_ok := hPre) := by
  intro m g m' g' hpre hag
  refine ⟨fun c => (Cert.Kernel2Ideal.Gen.dats m 0 c).arrAt 10 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨e0, e1, e2, e3, e4, e5, e6, e7, e8, e9⟩ := hag c
  refine ⟨(h c).1.trans ?_, (h c).2⟩
  unfold Cert.Reference2Ideal.Value.res_main_v45
  rw [e0, e1, e2, e3, e4, e5, e6, e7, e8, e9]
  refine Eq.trans ?_ (Cert.Kernel2Ideal.Moe.result m c fun b row e => Cert.Kernel2Ideal.Moe.gate_real (hpre c) b row e).symm
  rfl

/-- The dense feed-forward's reference leaves its arguments as they were, and it has no semaphore. -/
theorem dense_reference_frame : Cert.quiescent_Reference3Ideal (hReference3Ideal := Cert.Reference3Ideal.Gen.facts) := by
  intro m g _
  exact (θ_run Cert.Reference3Ideal.defs _ _).mono (fun r h => And.intro (fun c => (h c).2) (sem_eq_zero_of_no_sems (by decide) r.2))
    (Cert.Reference3Ideal.Value.run (F := Ideal) m g)

/-- The kernel and the reference of the dense feed-forward end with equal results. -/
theorem dense_algebraic : Cert.algebraic_Kernel3Ideal_Reference3Ideal
    (hKernel3Ideal := Cert.Kernel3Ideal.Gen.facts) (hReference3Ideal := Cert.Reference3Ideal.Gen.facts) := by
  intro m g m' g' hpre hag
  refine ⟨fun c => (Cert.Kernel3Ideal.Gen.dats m 0 c).arrAt 9 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨e0, e1, e2, e3, e4, e5, e6, e7, e8⟩ := hag c
  refine ⟨(h c).1.trans ?_, (h c).2⟩
  unfold Cert.Reference3Ideal.Value.res_main_v39
  rw [e0, e1, e2, e3, e4, e5, e6, e7, e8]
  refine Eq.trans ?_ (Cert.Kernel3Ideal.Dense.result m c).symm
  rfl

/-- The reference of the combined input projection leaves its arguments as they were, and it has no semaphore. -/
theorem project_reference_frame : Cert.quiescent_Reference4Ideal (hReference4Ideal := Cert.Reference4Ideal.Gen.facts) := by
  intro m g _
  exact (θ_run Cert.Reference4Ideal.defs _ _).mono
    (fun r h => And.intro (fun c => (h c).2.2.2.2.2.2) (sem_eq_zero_of_no_sems (by decide) r.2))
    (Cert.Reference4Ideal.Value.run (F := Ideal) m g)

/-- The kernel and the reference of the combined input projection end with equal results, each of the six. -/
theorem project_algebraic : Cert.algebraic_Kernel4Ideal_Reference4Ideal
    (hKernel4Ideal := Cert.Kernel4Ideal.Gen.facts) (hReference4Ideal := Cert.Reference4Ideal.Gen.facts) := by
  intro m g m' g' hpre hag
  refine ⟨_, _, _, _, _, _, Cert.Kernel4Ideal.Value.run_blocks m g, ?_⟩
  refine (θ_run Cert.Reference4Ideal.defs _ _).mono (fun r h c => ?_) (Cert.Reference4Ideal.Value.run m' g')
  obtain ⟨e0, e1, e2, e3⟩ := hag c
  obtain ⟨h4, h5, h6, h7, h8, h9, rest⟩ := h c
  rw [e0, e1, e2, e3] at h4 h5 h6 h7 h8 h9
  exact ⟨h4.trans (Cert.Kernel4Ideal.Project.result4 m c).symm, h5.trans (Cert.Kernel4Ideal.Project.result5 m c).symm,
    h6.trans (Cert.Kernel4Ideal.Project.result6 m c).symm, h7.trans (Cert.Kernel4Ideal.Project.result7 m c).symm,
    h8.trans (Cert.Kernel4Ideal.Project.result8 m c).symm, h9.trans (Cert.Kernel4Ideal.Project.result9 m c).symm, rest⟩

/-- The reference of the output projection leaves its arguments as they were, and it has no semaphore. -/
theorem mix_reference_frame : Cert.quiescent_Reference5Ideal (hReference5Ideal := Cert.Reference5Ideal.Gen.facts) := by
  intro m g _
  exact (θ_run Cert.Reference5Ideal.defs _ _).mono (fun r h => And.intro (fun c => (h c).2) (sem_eq_zero_of_no_sems (by decide) r.2))
    (Cert.Reference5Ideal.Value.run (F := Ideal) m g)

/-- The kernel and the reference of the output projection end with equal results. -/
theorem mix_algebraic : Cert.algebraic_Kernel5Ideal_Reference5Ideal
    (hKernel5Ideal := Cert.Kernel5Ideal.Gen.facts) (hReference5Ideal := Cert.Reference5Ideal.Gen.facts) := by
  intro m g m' g' hpre hag
  refine ⟨fun c => (Cert.Kernel5Ideal.Gen.dats m 0 c).arrAt 13 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨e0, e1, e2, e3, e4, e5, e6, e7, e8, e9, e10, e11, e12⟩ := hag c
  refine ⟨(h c).1.trans ?_, (h c).2⟩
  unfold Cert.Reference5Ideal.Value.res_main_v76
  rw [e0, e1, e2, e3, e4, e5, e6, e7, e8, e9, e10, e11, e12]
  refine Eq.trans ?_ (Cert.Kernel5Ideal.Mix.result m c).symm
  rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, gateFacts,
    fun m ρ _ => Cert.Kernel.Gen.frame m ρ, fun m ρ _ => Cert.KernelIdeal.Gen.frame m ρ, fun m ρ _ => Cert.KernelIdeal.Gen.frame m ρ,
    flash_reference_frame, fun m ρ _ => flash_reference_frame m ρ trivial,
    fun m ρ _ => Cert.Kernel2.Gen.frame m ρ, fun m ρ _ => Cert.Kernel2Ideal.Gen.frame m ρ, fun m ρ _ => Cert.Kernel2Ideal.Gen.frame m ρ,
    moe_reference_frame, fun m ρ _ => moe_reference_frame m ρ trivial,
    fun m ρ _ => Cert.Kernel3.Gen.frame m ρ, fun m ρ _ => Cert.Kernel3Ideal.Gen.frame m ρ, dense_reference_frame,
    fun m ρ _ => Cert.Kernel4.Gen.frame m ρ, fun m ρ _ => Cert.Kernel4Ideal.Gen.frame m ρ, project_reference_frame,
    fun m ρ _ => Cert.Kernel5.Gen.frame m ρ, fun m ρ _ => Cert.Kernel5Ideal.Gen.frame m ρ, mix_reference_frame,
    trivial, flash_algebraic preFacts, trivial, moe_algebraic gateFacts, trivial, dense_algebraic,
    trivial, project_algebraic, trivial, mix_algebraic⟩

end Cert.Proof

end
